-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_small_KernelIdeal [hPre_small_KernelIdeal : Cert.Pre_small_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_small_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_small_ReferenceIdeal [hPre_small_ReferenceIdeal : Cert.Pre_small_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_small_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_SiluIdeal (m : (ℓ : Loc Cert.SiluIdeal.nD Cert.SiluIdeal.τ Cert.SiluIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_small_KernelIdeal [hKernelIdeal : Cert.KernelIdeal.Facts] [hPre_small_KernelIdeal : Cert.Pre_small_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_small_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_small_ReferenceIdeal [hReferenceIdeal : Cert.ReferenceIdeal.Facts] [hPre_small_ReferenceIdeal : Cert.Pre_small_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_small_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ r.2.sem = fun _ => 0)

def preserves_Kernel_KernelIdeal : Prop :=
  True

def algebraic_KernelIdeal_SiluIdeal [hKernelIdeal : Cert.KernelIdeal.Facts] [hSiluIdeal : Cert.SiluIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SiluIdeal.nD Cert.SiluIdeal.τ Cert.SiluIdeal.sig) → Buf (Elt Ideal) ℓ) (g' : Dev Cert.SiluIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.SiluIdeal.nD).tc : Thread Cert.SiluIdeal.nD Cert.SiluIdeal.τ).loc Cert.SiluIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.SiluIdeal.nD).tc : Thread Cert.SiluIdeal.nD Cert.SiluIdeal.τ).loc Cert.SiluIdeal.main_arg1))) →
    ∃ (v0 : Buf (Elt Ideal) (((0 : Dev Cert.SiluIdeal.nD).tc : Thread Cert.SiluIdeal.nD Cert.SiluIdeal.τ).loc Cert.SiluIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.SiluIdeal.defs (F := Ideal)) (onTc (τ := Cert.SiluIdeal.τ) (Cert.SiluIdeal.main (F := Ideal))) ⟨m', fun _ => 0, g'⟩ (fun r =>
          r.2.mem (((0 : Dev Cert.SiluIdeal.nD).tc : Thread Cert.SiluIdeal.nD Cert.SiluIdeal.τ).loc Cert.SiluIdeal.main_v5) = v0
          ∧ r.2.mem (((0 : Dev Cert.SiluIdeal.nD).tc : Thread Cert.SiluIdeal.nD Cert.SiluIdeal.τ).loc Cert.SiluIdeal.main_arg0) = m' (((0 : Dev Cert.SiluIdeal.nD).tc : Thread Cert.SiluIdeal.nD Cert.SiluIdeal.τ).loc Cert.SiluIdeal.main_arg0)
          ∧ r.2.mem (((0 : Dev Cert.SiluIdeal.nD).tc : Thread Cert.SiluIdeal.nD Cert.SiluIdeal.τ).loc Cert.SiluIdeal.main_arg1) = m' (((0 : Dev Cert.SiluIdeal.nD).tc : Thread Cert.SiluIdeal.nD Cert.SiluIdeal.τ).loc Cert.SiluIdeal.main_arg1))

def algebraic_KernelIdeal_ReferenceIdeal_pre_small_KernelIdeal [hKernelIdeal : Cert.KernelIdeal.Facts] [hReferenceIdeal : Cert.ReferenceIdeal.Facts] [hPre_small_KernelIdeal : Cert.Pre_small_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_small_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hSiluIdeal : Cert.SiluIdeal.Facts) (hPre_small_KernelIdeal : Cert.Pre_small_KernelIdeal.Facts) (hPre_small_ReferenceIdeal : Cert.Pre_small_ReferenceIdeal.Facts),
    quiescent_Kernel (hKernel := hKernel)
    ∧ quiescent_KernelIdeal (hKernelIdeal := hKernelIdeal)
    ∧ quiescent_KernelIdeal_pre_small_KernelIdeal (hKernelIdeal := hKernelIdeal) (hPre_small_KernelIdeal := hPre_small_KernelIdeal)
    ∧ quiescent_ReferenceIdeal (hReferenceIdeal := hReferenceIdeal)
    ∧ quiescent_ReferenceIdeal_pre_small_ReferenceIdeal (hReferenceIdeal := hReferenceIdeal) (hPre_small_ReferenceIdeal := hPre_small_ReferenceIdeal)
    ∧ quiescent_SiluIdeal (hSiluIdeal := hSiluIdeal)
    ∧ preserves_Kernel_KernelIdeal
    ∧ algebraic_KernelIdeal_SiluIdeal (hKernelIdeal := hKernelIdeal) (hSiluIdeal := hSiluIdeal)
    ∧ algebraic_KernelIdeal_ReferenceIdeal_pre_small_KernelIdeal (hKernelIdeal := hKernelIdeal) (hReferenceIdeal := hReferenceIdeal) (hPre_small_KernelIdeal := hPre_small_KernelIdeal)
-- ==== Pre_small_KernelIdeal.lean ====
abbrev S4096x512 : Shape := ⟨2, ![4096, 512]⟩
abbrev S512x8192 : Shape := ⟨2, ![512, 8192]⟩
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  dot_S4096x512_S512x8192_S4096x8192_1_0_0_1_n_n_wf : DotDims.WF S4096x512 S512x8192 S4096x8192 [1] [0] [0] [1] [] []

variable [Facts]

def dot_S4096x512_S512x8192_S4096x8192_1_0_0_1_n_n : DotDims S4096x512 S512x8192 S4096x8192 where
  lhsContracting := [1]
  rhsContracting := [0]
  lhsNonContracting := [0]
  rhsNonContracting := [1]
  lhsBatch := []
  rhsBatch := []
  wf := dot_S4096x512_S512x8192_S4096x8192_1_0_0_1_n_n_wf
def fn {F : FTy → Type} [FloatOps F] (main_arg0 : FVec F S4096x512 .f32) (main_arg1 : FVec F S512x8192 .f32) : IVec S_ 1 :=
  let main_v0 : FVec F S4096x8192 .f32 := (fun l r => Host.dotGeneral dot_S4096x512_S512x8192_S4096x8192_1_0_0_1_n_n none l r) main_arg0 main_arg1
  let main_v1 : FVec F S4096x8192 .f32 := Host.absf main_v0
  let main_cst : FVec F S_ .f32 := constant S_ .f32 0x40F00000#32
  let main_v2 : FVec F S4096x8192 .f32 := broadcastInDim S4096x8192 ![] bcast_S_S4096x8192 main_cst
  let main_v3 : IVec S4096x8192 1 := cmpf .ole main_v1 main_v2
  let main_c : IVec S_ 1 := constantI S_ 1 1#1
  let main_v4 : IVec S_ 1 := (fun x v => Host.reduce IntOp.andi x v reducesTo_S4096x8192_S_d0_1 h_S_) main_v3 main_c
  main_v4
-- ==== Pre_small_ReferenceIdeal.lean ====
abbrev S4096x4096 : Shape := ⟨2, ![4096, 4096]⟩
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  dot_S4096x4096_S4096x8192_S4096x8192_1_0_0_1_n_n_wf : DotDims.WF S4096x4096 S4096x8192 S4096x8192 [1] [0] [0] [1] [] []

variable [Facts]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf
def fn {F : FTy → Type} [FloatOps F] (main_arg0 : FVec F S4096x4096 .f32) (main_arg1 : FVec F S4096x8192 .f32) : IVec S_ 1 :=
  let main_v0 : FVec F S4096x8192 .f32 := (fun l r => Host.dotGeneral dot_S4096x4096_S4096x8192_S4096x8192_1_0_0_1_n_n none l r) main_arg0 main_arg1
  let main_v1 : FVec F S4096x8192 .f32 := Host.absf main_v0
  let main_cst : FVec F S_ .f32 := constant S_ .f32 0x40F00000#32
  let main_v2 : FVec F S4096x8192 .f32 := broadcastInDim S4096x8192 ![] bcast_S_S4096x8192 main_cst
  let main_v3 : IVec S4096x8192 1 := cmpf .ole main_v1 main_v2
  let main_c : IVec S_ 1 := constantI S_ 1 1#1
  let main_v4 : IVec S_ 1 := (fun x v => Host.reduce IntOp.andi x v reducesTo_S4096x8192_S_d0_1 h_S_) main_v3 main_c
  main_v4
-- ==== Kernel.lean ====
abbrev S4096x512 : Shape := ⟨2, ![4096, 512]⟩
abbrev S512x8192 : Shape := ⟨2, ![512, 8192]⟩
abbrev S2x512x4096 : Shape := ⟨3, ![2, 512, 4096]⟩
abbrev S512x4096 : Shape := ⟨2, ![512, 4096]⟩
abbrev S2x512x512 : Shape := ⟨3, ![2, 512, 512]⟩
abbrev S2x512x1024 : Shape := ⟨3, ![2, 512, 1024]⟩
abbrev S2 : Shape := ⟨1, ![2]⟩
abbrev S_ : Shape := ⟨0, ![]⟩
abbrev S1 : Shape := ⟨1, ![1]⟩
abbrev S1x512x512 : Shape := ⟨3, ![1, 512, 512]⟩
abbrev S512x512 : Shape := ⟨2, ![512, 512]⟩
abbrev S1x512x1024 : Shape := ⟨3, ![1, 512, 1024]⟩
abbrev S512x1024 : Shape := ⟨2, ![512, 1024]⟩
abbrev S1x512x4096 : Shape := ⟨3, ![1, 512, 4096]⟩
abbrev S1x128x4096 : Shape := ⟨3, ![1, 128, 4096]⟩
abbrev S128x4096 : Shape := ⟨2, ![128, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x8192, .f32⟩
  | .hbm, ⟨2, _⟩ => ⟨S512x8192, .f32⟩
  | .local _ .vmem, ⟨0, _⟩ => ⟨S2x512x4096, .f32⟩
  | .local _ .vmem, ⟨1, _⟩ => ⟨S2x512x4096, .f32⟩
  | .local _ .vmem, ⟨2, _⟩ => ⟨S512x4096, .f32⟩
  | .local _ .vmem, ⟨3, _⟩ => ⟨S512x4096, .f32⟩
  | .local _ .vmem, ⟨4, _⟩ => ⟨S2x512x512, .f32⟩
  | .local _ .vmem, ⟨5, _⟩ => ⟨S2x512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 3 → Bool
  | ⟨0, _⟩ => true
  | ⟨1, _⟩ => true
  | ⟨2, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 3 14 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 2

abbrev nD : Nat := 8
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.addi v2 c8_i32_5
  let c1_i32_6 : BitVec 32 := 1#32
  let v9 : BitVec 32 := Scalar.subi v8 c1_i32_6
  let c8_i32_7 : BitVec 32 := 8#32
  let v10 : BitVec 32 := Scalar.remsi v9 c8_i32_7
  let c512_i32 : BitVec 32 := 512#32
  let v13 : BitVec 32 := Scalar.muli v10 c512_i32
  let c0_i32_13 : BitVec 32 := 0#32
  ![v13.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_8 : BitVec 32 := 1#32
  let v11 : BitVec 32 := Scalar.addi v2 c1_i32_8
  let c8_i32_9 : BitVec 32 := 8#32
  let v12 : BitVec 32 := Scalar.remsi v11 c8_i32_9
  let c512_i32_14 : BitVec 32 := 512#32
  let v19 : BitVec 32 := Scalar.muli v12 c512_i32_14
  let c0_i32_19 : BitVec 32 := 0#32
  ![v19.toNat, 0]
def k0_dev1 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_21 : BitVec 32 := 1#32
  let v26 : BitVec 32 := Scalar.muli v5 c1_i32_21
  let v27 : BitVec 32 := Scalar.addi c0_i32_22 v26
  v27.toNat
def k0_dev2 (d0 : Dev nD) : Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_24 : BitVec 32 := 1#32
  let v28 : BitVec 32 := Scalar.muli v7 c1_i32_24
  let v29 : BitVec 32 := Scalar.addi c0_i32_25 v28
  v29.toNat
def k0_dev3 (d0 : Dev nD) : Nat :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_201 : BitVec 32 := 1#32
  let v188 : BitVec 32 := Scalar.muli v7 c1_i32_201
  let v189 : BitVec 32 := Scalar.addi c0_i32_202 v188
  v189.toNat
def k0_dev4 (d0 : Dev nD) : Nat :=
  let c0_i32_212 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_211 : BitVec 32 := 1#32
  let v198 : BitVec 32 := Scalar.muli v5 c1_i32_211
  let v199 : BitVec 32 := Scalar.addi c0_i32_212 v198
  v199.toNat
def k0_off3 (d0 : Dev nD) (c0_i32_218 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v208 : BitVec 32 := Scalar.addi v2 c16_i32
  let c2_i32_217 : BitVec 32 := 2#32
  let v209 : BitVec 32 := Scalar.subi v208 c2_i32_217
  let v210 : BitVec 32 := Scalar.subi v209 c0_i32_218
  let c8_i32_219 : BitVec 32 := 8#32
  let v211 : BitVec 32 := Scalar.remsi v210 c8_i32_219
  let c512_i32_223 : BitVec 32 := 512#32
  let v215 : BitVec 32 := Scalar.muli v211 c512_i32_223
  let c0_i32_228 : BitVec 32 := 0#32
  ![v215.toNat, 0]
def k0_off4 (d0 : Dev nD) (c0_i32_221 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_220 : BitVec 32 := 2#32
  let v212 : BitVec 32 := Scalar.addi v2 c2_i32_220
  let v213 : BitVec 32 := Scalar.addi v212 c0_i32_221
  let c8_i32_222 : BitVec 32 := 8#32
  let v214 : BitVec 32 := Scalar.remsi v213 c8_i32_222
  let c512_i32_229 : BitVec 32 := 512#32
  let v221 : BitVec 32 := Scalar.muli v214 c512_i32_229
  let c0_i32_234 : BitVec 32 := 0#32
  ![v221.toNat, 0]
def k0_dev5 (d0 : Dev nD) : Nat :=
  let c0_i32_435 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_434 : BitVec 32 := 1#32
  let v397 : BitVec 32 := Scalar.muli v5 c1_i32_434
  let v398 : BitVec 32 := Scalar.addi c0_i32_435 v397
  v398.toNat
def k0_dev6 (d0 : Dev nD) : Nat :=
  let c0_i32_438 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_437 : BitVec 32 := 1#32
  let v399 : BitVec 32 := Scalar.muli v7 c1_i32_437
  let v400 : BitVec 32 := Scalar.addi c0_i32_438 v399
  v400.toNat
def k0_dev7 (d0 : Dev nD) : Nat :=
  let c0_i32_509 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_508 : BitVec 32 := 1#32
  let v457 : BitVec 32 := Scalar.muli v7 c1_i32_508
  let v458 : BitVec 32 := Scalar.addi c0_i32_509 v457
  v458.toNat
def k0_dev8 (d0 : Dev nD) : Nat :=
  let c0_i32_519 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_518 : BitVec 32 := 1#32
  let v467 : BitVec 32 := Scalar.muli v5 c1_i32_518
  let v468 : BitVec 32 := Scalar.addi c0_i32_519 v467
  v468.toNat
def k0_dev9 (d0 : Dev nD) : Nat :=
  let c0_i32_743 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_742 : BitVec 32 := 1#32
  let v666 : BitVec 32 := Scalar.muli v5 c1_i32_742
  let v667 : BitVec 32 := Scalar.addi c0_i32_743 v666
  v667.toNat
def k0_dev10 (d0 : Dev nD) : Nat :=
  let c0_i32_746 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_745 : BitVec 32 := 1#32
  let v668 : BitVec 32 := Scalar.muli v7 c1_i32_745
  let v669 : BitVec 32 := Scalar.addi c0_i32_746 v668
  v669.toNat
def k0_dev11 (d0 : Dev nD) : Nat :=
  let c0_i32_820 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_819 : BitVec 32 := 1#32
  let v726 : BitVec 32 := Scalar.muli v7 c1_i32_819
  let v727 : BitVec 32 := Scalar.addi c0_i32_820 v726
  v727.toNat
def k0_dev12 (d0 : Dev nD) : Nat :=
  let c0_i32_830 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_829 : BitVec 32 := 1#32
  let v736 : BitVec 32 := Scalar.muli v5 c1_i32_829
  let v737 : BitVec 32 := Scalar.addi c0_i32_830 v736
  v737.toNat
def k0_dev13 (d0 : Dev nD) : Nat :=
  let c0_i32_1054 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1053 : BitVec 32 := 1#32
  let v935 : BitVec 32 := Scalar.muli v5 c1_i32_1053
  let v936 : BitVec 32 := Scalar.addi c0_i32_1054 v935
  v936.toNat
def k0_dev14 (d0 : Dev nD) : Nat :=
  let c0_i32_1057 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1056 : BitVec 32 := 1#32
  let v937 : BitVec 32 := Scalar.muli v7 c1_i32_1056
  let v938 : BitVec 32 := Scalar.addi c0_i32_1057 v937
  v938.toNat
def k0_dev15 (d0 : Dev nD) : Nat :=
  let c0_i32_1131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1130 : BitVec 32 := 1#32
  let v995 : BitVec 32 := Scalar.muli v7 c1_i32_1130
  let v996 : BitVec 32 := Scalar.addi c0_i32_1131 v995
  v996.toNat
def k0_dev16 (d0 : Dev nD) : Nat :=
  let c0_i32_1141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1140 : BitVec 32 := 1#32
  let v1005 : BitVec 32 := Scalar.muli v5 c1_i32_1140
  let v1006 : BitVec 32 := Scalar.addi c0_i32_1141 v1005
  v1006.toNat
def k0_dev17 (d0 : Dev nD) : Nat :=
  let c0_i32_1364 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1363 : BitVec 32 := 1#32
  let v1204 : BitVec 32 := Scalar.muli v5 c1_i32_1363
  let v1205 : BitVec 32 := Scalar.addi c0_i32_1364 v1204
  v1205.toNat
def k0_dev18 (d0 : Dev nD) : Nat :=
  let c0_i32_1367 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1366 : BitVec 32 := 1#32
  let v1206 : BitVec 32 := Scalar.muli v7 c1_i32_1366
  let v1207 : BitVec 32 := Scalar.addi c0_i32_1367 v1206
  v1207.toNat
def k0_dev19 (d0 : Dev nD) : Nat :=
  let c0_i32_1441 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1440 : BitVec 32 := 1#32
  let v1264 : BitVec 32 := Scalar.muli v7 c1_i32_1440
  let v1265 : BitVec 32 := Scalar.addi c0_i32_1441 v1264
  v1265.toNat
def k0_dev20 (d0 : Dev nD) : Nat :=
  let c0_i32_1451 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1450 : BitVec 32 := 1#32
  let v1274 : BitVec 32 := Scalar.muli v5 c1_i32_1450
  let v1275 : BitVec 32 := Scalar.addi c0_i32_1451 v1274
  v1275.toNat
def k0_dev21 (d0 : Dev nD) : Nat :=
  let c0_i32_1674 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1673 : BitVec 32 := 1#32
  let v1473 : BitVec 32 := Scalar.muli v5 c1_i32_1673
  let v1474 : BitVec 32 := Scalar.addi c0_i32_1674 v1473
  v1474.toNat
def k0_dev22 (d0 : Dev nD) : Nat :=
  let c0_i32_1677 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1676 : BitVec 32 := 1#32
  let v1475 : BitVec 32 := Scalar.muli v7 c1_i32_1676
  let v1476 : BitVec 32 := Scalar.addi c0_i32_1677 v1475
  v1476.toNat
def k0_dev23 (d0 : Dev nD) : Nat :=
  let c0_i32_1751 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1750 : BitVec 32 := 1#32
  let v1533 : BitVec 32 := Scalar.muli v7 c1_i32_1750
  let v1534 : BitVec 32 := Scalar.addi c0_i32_1751 v1533
  v1534.toNat
def k0_dev24 (d0 : Dev nD) : Nat :=
  let c0_i32_1761 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1760 : BitVec 32 := 1#32
  let v1543 : BitVec 32 := Scalar.muli v5 c1_i32_1760
  let v1544 : BitVec 32 := Scalar.addi c0_i32_1761 v1543
  v1544.toNat
def k0_dev25 (d0 : Dev nD) : Nat :=
  let c0_i32_1984 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1983 : BitVec 32 := 1#32
  let v1742 : BitVec 32 := Scalar.muli v5 c1_i32_1983
  let v1743 : BitVec 32 := Scalar.addi c0_i32_1984 v1742
  v1743.toNat
def k0_dev26 (d0 : Dev nD) : Nat :=
  let c0_i32_1987 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1986 : BitVec 32 := 1#32
  let v1744 : BitVec 32 := Scalar.muli v7 c1_i32_1986
  let v1745 : BitVec 32 := Scalar.addi c0_i32_1987 v1744
  v1745.toNat
def k0_dev27 (d0 : Dev nD) : Nat :=
  let c0_i32_2061 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2060 : BitVec 32 := 1#32
  let v1802 : BitVec 32 := Scalar.muli v7 c1_i32_2060
  let v1803 : BitVec 32 := Scalar.addi c0_i32_2061 v1802
  v1803.toNat
def k0_dev28 (d0 : Dev nD) : Nat :=
  let c0_i32_2071 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2070 : BitVec 32 := 1#32
  let v1812 : BitVec 32 := Scalar.muli v5 c1_i32_2070
  let v1813 : BitVec 32 := Scalar.addi c0_i32_2071 v1812
  v1813.toNat
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== SiluIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Prog.lean ====
/- The kernel's body, restated in the shape of its source: copies, the product of a chunk and a
   column half, the ring's sends, the tiles of the accumulation and of the epilogue. The printed body
   is this one, by unfolding. -/
module

public import proofs.«01_k».proof.Proof.Gen.KernelIdeal.Skeleton
public import proofs.«01_k».proof.Proof.Gen.KernelIdeal.Points
public import Idealize.ShloMosaic.Lib.Pipeline.Regions

@[expose] public section

set_option synthInstance.maxSize 4096

noncomputable section

namespace Cert.KernelIdeal.Ring

open Idealize.ShloMosaic Idealize.ShloMosaic.TcCoe Idealize.SL.Sem
open Cert.KernelIdeal.Gen

variable {F : FTy → Type} [FloatOps F]

/-- Programs of the kernel. -/
abbrev TP (F : FTy → Type) : Type → Type _ := Prog (TpuEff nD τ sig (Elt F) Λ₀ .tc)

/-! ## Slots of the doubled buffers -/

theorem inbSlot (A B k : ℕ) (hk : k < 2) : ∀ a, (![k, 0, 0] : Fin 3 → ℕ) a + (⟨3, ![1, A, B]⟩ : Shape).size a ≤ (⟨3, ![2, A, B]⟩ : Shape).size a := by
  intro a; fin_cases a <;> simp <;> omega

/-- Slot `k` of a doubled buffer. -/
abbrev slotRect (A B : ℕ) (k : Fin 2) : Rect (⟨3, ![2, A, B]⟩ : Shape) :=
  Rect.unit (s := ⟨3, ![2, A, B]⟩) ![k.val, 0, 0] (⟨3, ![1, A, B]⟩ : Shape).size (inbSlot A B k.val k.isLt)

/-- Slot `k` of a communication buffer, as a matrix. -/
abbrev cslot (m : Memref sig .tc .vmem S2x512x4096 .f32) (k : Fin 2) : Memref sig .tc .vmem S512x4096 .f32 :=
  (m.slice (slotRect 512 4096 k) (fun _ => rfl)).squeeze S512x4096 squeezes_S1x512x4096_S512x4096

abbrev mX : Memref sig .tc .hbm S4096x512 .f32 := Memref.whole main_arg0
abbrev mW : Memref sig .tc .hbm S512x8192 .f32 := Memref.whole main_arg1
abbrev mOut : Memref sig .tc .hbm S512x8192 .f32 := Memref.whole main_v1
abbrev mXs : Memref sig .tc .vmem S2x512x512 .f32 := Memref.whole cc0_scratch4
abbrev mWs : Memref sig .tc .vmem S2x512x1024 .f32 := Memref.whole cc0_scratch5

/-- The communication buffer of a direction: clockwise (`false`) and counterclockwise (`true`). -/
abbrev comm : Bool → Memref sig .tc .vmem S2x512x4096 .f32
  | false => Memref.whole cc0_scratch0
  | true => Memref.whole cc0_scratch1
/-- The buffer a direction's own product is computed in. -/
abbrev part : Bool → Memref sig .tc .vmem S512x4096 .f32
  | false => Memref.whole cc0_scratch2
  | true => Memref.whole cc0_scratch3

/-- Slot `k` of the staging buffer of the left operand. -/
abbrev xslot (k : Fin 2) : Memref sig .tc .vmem S512x512 .f32 :=
  (mXs.slice (slotRect 512 512 k) (fun _ => rfl)).squeeze S512x512 squeezes_S1x512x512_S512x512
/-- Slot `k` of the staging buffer of the right operand. -/
abbrev wslot (k : Fin 2) : Memref sig .tc .vmem S512x1024 .f32 :=
  (mWs.slice (slotRect 512 1024 k) (fun _ => rfl)).squeeze S512x1024 squeezes_S1x512x1024_S512x1024

/-! ## Semaphores -/

def xsem (k : Fin 2) : DmaSem sig := (⟨0 + k.val, by omega⟩ : Fin 14)
def wsem (k : Fin 2) : DmaSem sig := (⟨2 + k.val, by omega⟩ : Fin 14)
def osem (k : Fin 2) : DmaSem sig := (⟨4 + k.val, by omega⟩ : Fin 14)
/-- The semaphore of a direction's send from slot `k`. -/
def ssem : Bool → Fin 2 → DmaSem sig
  | false, k => (⟨6 + k.val, by omega⟩ : Fin 14)
  | true, k => (⟨10 + k.val, by omega⟩ : Fin 14)
/-- The semaphore of a direction's arrival in slot `k`. -/
def rsem : Bool → Fin 2 → DmaSem sig
  | false, k => (⟨8 + k.val, by omega⟩ : Fin 14)
  | true, k => (⟨12 + k.val, by omega⟩ : Fin 14)
/-- The semaphore of a direction's credits. -/
def csem : Bool → Sem sig
  | false => (0 : Fin 3)
  | true => (1 : Fin 3)
/-- The barrier semaphore. -/
def bsem : Sem sig := (2 : Fin 3)

/-! ## The left operand's copies -/

/-- A chunk of the left operand, at an offset. -/
abbrev xsrc (off : Fin 2 → ℕ) (h : ∀ a, off a + S512x512.size a ≤ S4096x512.size a) : Memref sig .tc .hbm S512x512 .f32 :=
  mX.slice (Rect.unit (s := S4096x512) off S512x512.size h) (fun _ => rfl)

def xStart (off : Fin 2 → ℕ) (h : ∀ a, off a + S512x512.size a ≤ S4096x512.size a) (k : Fin 2) : TP F PUnit :=
  Prog.lift (.enqueueDma (xsrc off h) (.here (xslot k)) (.dma (xsem k)) (View.wordExact_bits rfl) ((View.wordExact_bits rfl).reshape _ _) ⟨Or.inl rfl, trivial⟩)

def xWait (off : Fin 2 → ℕ) (h : ∀ a, off a + S512x512.size a ≤ S4096x512.size a) (k : Fin 2) : TP F PUnit :=
  Prog.lift (.waitDma2 (xsem k) (xsrc off h) (xslot k) (View.wordExact_bits rfl) ((View.wordExact_bits rfl).reshape _ _))

/-! ## The product of a chunk and a column half -/

theorem inbW (o : ℕ) (h : o + 1024 ≤ 8192) : ∀ a, (![0, o] : Fin 2 → ℕ) a + S512x1024.size a ≤ S512x8192.size a := by
  intro a; fin_cases a <;> simp <;> omega

/-- Columns `o … o + 1023` of the right operand. -/
abbrev wsrc (o : ℕ) (h : o + 1024 ≤ 8192) : Memref sig .tc .hbm S512x1024 .f32 :=
  mW.slice (Rect.unit (s := S512x8192) ![0, o] S512x1024.size (inbW o h)) (fun _ => rfl)

def wStart (o : ℕ) (h : o + 1024 ≤ 8192) (k : Fin 2) : TP F PUnit :=
  Prog.lift (.enqueueDma (wsrc o h) (.here (wslot k)) (.dma (wsem k)) (View.wordExact_bits rfl) ((View.wordExact_bits rfl).reshape _ _) ⟨Or.inl rfl, trivial⟩)

def wWait (o : ℕ) (h : o + 1024 ≤ 8192) (k : Fin 2) : TP F PUnit :=
  Prog.lift (.waitDma2 (wsem k) (wsrc o h) (wslot k) (View.wordExact_bits rfl) ((View.wordExact_bits rfl).reshape _ _))

def xLoad (k : Fin 2) : TP F (Vec F S1x512x512 .f32) :=
  Prog.lift (.load mXs (slotRect 512 512 k).toLoadRect (View.loadsAt_vmem h_S1x512x512))

def wLoad (k : Fin 2) : TP F (Vec F S1x512x1024 .f32) :=
  Prog.lift (.load mWs (slotRect 512 1024 k).toLoadRect (View.loadsAt_vmem h_S1x512x1024))

theorem inbD (o : ℕ) (h : o + 1024 ≤ 4096) : ∀ a, (![0, o] : Fin 2 → ℕ) a + S512x1024.size a ≤ S512x4096.size a := by
  intro a; fin_cases a <;> simp <;> omega

/-- Columns `o … o + 1023` of a half. -/
abbrev colRect (o : ℕ) (h : o + 1024 ≤ 4096) : Rect S512x4096 :=
  Rect.unit (s := S512x4096) ![0, o] S512x1024.size (inbD o h)

/-- The product of a chunk and a column tile. -/
def tileDot (x : Vec F S1x512x512 .f32) (w : Vec F S1x512x1024 .f32) : FVec F S512x1024 .f32 :=
  k0_pay2 (k0_pay1 x) w

/-- Store the product of the chunk and the column tile of slot `k` at columns `o …`. -/
def dotStore (x : Vec F S1x512x512 .f32) (k : Fin 2) (o : ℕ) (h : o + 1024 ≤ 4096) (dst : Memref sig .tc .vmem S512x4096 .f32) : TP F PUnit := do
  let w ← wLoad k
  let _ ← Prog.lift (.load dst (colRect o h).toLoadRect (View.loadsAt_vmem h_S512x1024))
  Prog.lift (.store dst (colRect o h) (tileDot x w) Finset.univ (View.stores_vmem_bits_univ h_S512x1024 rfl) (.inl rfl))

/-- The product of the chunk in slot `k` and the column half at `o`, tile after tile, the next tile's copy
    started before this one's is waited for. -/
def half (k : Fin 2) (o : ℕ) (h : o + 4096 ≤ 8192) (dst : Memref sig .tc .vmem S512x4096 .f32) : TP F PUnit := do
  wStart (o + 0) (by omega) 0
  let x ← xLoad k
  wStart (o + 1024) (by omega) 1
  wWait (o + 0) (by omega) 0
  dotStore x 0 0 (by omega) dst
  wStart (o + 2048) (by omega) 0
  wWait (o + 1024) (by omega) 1
  dotStore x 1 1024 (by omega) dst
  wStart (o + 3072) (by omega) 1
  wWait (o + 2048) (by omega) 0
  dotStore x 0 2048 (by omega) dst
  wWait (o + 3072) (by omega) 1
  dotStore x 1 3072 (by omega) dst

/-! ## The ring -/

/-- The neighbour clockwise. -/
abbrev nxt (c : Dev nD) : Dev nD := ⟨k0_dev3 c, k0_dev3_lt c⟩
/-- The neighbour counterclockwise. -/
abbrev prv (c : Dev nD) : Dev nD := ⟨k0_dev4 c, k0_dev4_lt c⟩
/-- The neighbour a direction sends to. -/
abbrev down : Bool → Dev nD → Dev nD
  | false, c => nxt c
  | true, c => prv c
/-- The neighbour a direction receives from. -/
abbrev up : Bool → Dev nD → Dev nD
  | false, c => prv c
  | true, c => nxt c

/-- Start the send of slot `a` into the neighbour's slot `b`. -/
def send (d : Bool) (c : Dev nD) (a b : Fin 2) : TP F PUnit :=
  Prog.lift (.enqueueDma (cslot (comm d) a) (.remote (Dev.tc (down d c)) (cslot (comm d) b) (.dma (ssem d a))) (.dma (rsem d b))
    ((View.wordExact_bits rfl).reshape _ _) ((View.wordExact_bits rfl).reshape _ _) ⟨⟨rfl, Or.inl rfl⟩, trivial⟩)

/-- Wait for the send from slot `a`. -/
def sendWait (d : Bool) (a b : Fin 2) : TP F PUnit :=
  Prog.lift (.waitDma2 (ssem d a) (cslot (comm d) b) (cslot (comm d) a) ((View.wordExact_bits rfl).reshape _ _) ((View.wordExact_bits rfl).reshape _ _))

/-- Wait for the arrival in slot `b`. -/
def recvWait (d : Bool) (a b : Fin 2) : TP F PUnit :=
  Prog.lift (.waitDma2 (rsem d b) (cslot (comm d) a) (cslot (comm d) b) ((View.wordExact_bits rfl).reshape _ _) ((View.wordExact_bits rfl).reshape _ _))

theorem inbC (k t : ℕ) (hk : k < 2) (ht : t < 4) : ∀ a, (![k, t * 128, 0] : Fin 3 → ℕ) a + S1x128x4096.size a ≤ S2x512x4096.size a := by
  intro a; fin_cases a <;> simp <;> omega
theorem inbP (t : ℕ) (ht : t < 4) : ∀ a, (![t * 128, 0] : Fin 2 → ℕ) a + S128x4096.size a ≤ S512x4096.size a := by
  intro a; fin_cases a <;> simp <;> omega

/-- Row tile `t` of slot `k`. -/
abbrev rowRect3 (k : Fin 2) (t : Fin 4) : Rect S2x512x4096 :=
  Rect.unit (s := S2x512x4096) ![k.val, t.val * 128, 0] S1x128x4096.size (inbC k.val t.val k.isLt t.isLt)
/-- Row tile `t` of a product. -/
abbrev rowRect (t : Fin 4) : Rect S512x4096 :=
  Rect.unit (s := S512x4096) ![t.val * 128, 0] S128x4096.size (inbP t.val t.isLt)

/-- The received tile plus the own tile. -/
def tileAdd (a : Vec F S1x128x4096 .f32) (p : Vec F S128x4096 .f32) : FVec F S1x128x4096 .f32 := k0_pay25 a p
/-- The epilogue of the received tile plus the own tile. -/
def tileSilu (a : Vec F S1x128x4096 .f32) (p : Vec F S128x4096 .f32) : FVec F S1x128x4096 .f32 := k0_pay148 a p

/-- Combine tile `t` of slot `a` with tile `t` of the own product by `f` into tile `t` of slot `b`. -/
def tile (f : Vec F S1x128x4096 .f32 → Vec F S128x4096 .f32 → FVec F S1x128x4096 .f32)
    (m : Memref sig .tc .vmem S2x512x4096 .f32) (p : Memref sig .tc .vmem S512x4096 .f32) (a b : Fin 2) (t : Fin 4) : TP F PUnit := do
  let x ← Prog.lift (.load m (rowRect3 a t).toLoadRect (View.loadsAt_vmem h_S1x128x4096))
  let y ← Prog.lift (.load p (rowRect t).toLoadRect (View.loadsAt_vmem h_S128x4096))
  let _ ← Prog.lift (.load m (rowRect3 b t).toLoadRect (View.loadsAt_vmem h_S1x128x4096))
  Prog.lift (.store m (rowRect3 b t) (f x y) Finset.univ (View.stores_vmem_bits_univ h_S1x128x4096 rfl) (.inl rfl))

/-- Every tile of both directions. -/
def tiles (f : Vec F S1x128x4096 .f32 → Vec F S128x4096 .f32 → FVec F S1x128x4096 .f32) (a b : Fin 2) : TP F PUnit := do
  tile f (comm false) (part false) a b 0
  tile f (comm true) (part true) a b 0
  tile f (comm false) (part false) a b 1
  tile f (comm true) (part true) a b 1
  tile f (comm false) (part false) a b 2
  tile f (comm true) (part true) a b 2
  tile f (comm false) (part false) a b 3
  tile f (comm true) (part true) a b 3

/-- The chunk added clockwise, and the one added counterclockwise, at step `s`. -/
abbrev offA (c : Dev nD) (s : Fin 7) : Fin 2 → ℕ := k0_off3 c (BitVec.ofNat 32 s.val)
abbrev offB (c : Dev nD) (s : Fin 7) : Fin 2 → ℕ := k0_off4 c (BitVec.ofNat 32 s.val)

/-- The two products of step `s`. -/
def products (c : Dev nD) (s : Fin 7) : TP F PUnit := do
  xStart (offA c s) (k0_off3_inb c s) 0
  xStart (offB c s) (k0_off4_inb c s) 1
  xWait (offA c s) (k0_off3_inb c s) 0
  half 0 0 (by omega) (part false)
  xWait (offB c s) (k0_off4_inb c s) 1
  half 1 4096 (by omega) (part true)

/-- From the sends to the end of their waits, sending from slot `a` into slot `b`. -/
def exchange (c : Dev nD) (s : Fin 7) (a b : Fin 2) : TP F PUnit := do
  send false c a b
  send true c a b
  products c s
  sendWait false a b
  recvWait false a b
  sendWait true a b
  recvWait true a b

/-- Tell the neighbours that slot `a` is free. -/
def credits (c : Dev nD) : TP F PUnit := do
  semSignalWord (up false c) (csem false) 1#32
  semSignalWord (up true c) (csem true) 1#32

/-- Wait for both neighbours' free slots. -/
def creditsWait : TP F PUnit := do
  semWaitWord (csem false) 1#32
  semWaitWord (csem true) 1#32

/-- A step that passes the sums on. -/
def step (c : Dev nD) (s : Fin 7) (a b : Fin 2) : TP F PUnit := do
  exchange c s a b
  credits c
  tiles tileAdd b b

theorem inbO (o : ℕ) (h : o + 4096 ≤ 8192) : ∀ a, (![0, o] : Fin 2 → ℕ) a + S512x4096.size a ≤ S512x8192.size a := by
  intro a; fin_cases a <;> simp <;> omega
/-- A column half of the result. -/
abbrev odst (o : ℕ) (h : o + 4096 ≤ 8192) : Memref sig .tc .hbm S512x4096 .f32 :=
  mOut.slice (Rect.unit (s := S512x8192) ![0, o] S512x4096.size (inbO o h)) (fun _ => rfl)

def outStart (d : Bool) (o : ℕ) (h : o + 4096 ≤ 8192) (k : Fin 2) : TP F PUnit :=
  Prog.lift (.enqueueDma (cslot (comm d) 0) (.here (odst o h)) (.dma (osem k)) ((View.wordExact_bits rfl).reshape _ _) (View.wordExact_bits rfl) ⟨Or.inl rfl, trivial⟩)
def outWait (d : Bool) (o : ℕ) (h : o + 4096 ≤ 8192) (k : Fin 2) : TP F PUnit :=
  Prog.lift (.waitDma2 (osem k) (cslot (comm d) 0) (odst o h) ((View.wordExact_bits rfl).reshape _ _) (View.wordExact_bits rfl))

/-- Copy both halves of the result out. -/
def outs : TP F PUnit := do
  outStart false 0 (by omega) 0
  outStart true 4096 (by omega) 1
  outWait false 0 (by omega) 0
  outWait true 4096 (by omega) 1

/-- Meet both neighbours. -/
def meet (c : Dev nD) : TP F PUnit := do
  semSignalWord (prv c) bsem 1#32
  semSignalWord (nxt c) bsem 1#32
  semWaitWord bsem 2#32

/-- The first products, computed in the sums' slots 0, the neighbours met while the chunks arrive. -/
def start (c : Dev nD) : TP F PUnit := do
  xStart (k0_off1 c) (k0_off1_inb c) 0
  xStart (k0_off2 c) (k0_off2_inb c) 1
  meet c
  xWait (k0_off1 c) (k0_off1_inb c) 0
  half 0 0 (by omega) (cslot (comm false) 0)
  xWait (k0_off2 c) (k0_off2_inb c) 1
  half 1 4096 (by omega) (cslot (comm true) 0)

/-- The whole body at its device. -/
def run (c : Dev nD) : TP F PUnit := do
  start c
  step c 0 0 1
  creditsWait
  step c 1 1 0
  creditsWait
  step c 2 0 1
  creditsWait
  step c 3 1 0
  creditsWait
  step c 4 0 1
  creditsWait
  step c 5 1 0
  creditsWait
  exchange c 6 0 1
  tiles tileSilu 1 0
  outs

def body : TP F PUnit := do
  let c ← Prog.lift .deviceId
  run c

set_option maxRecDepth 1000000 in
theorem body_eq (t : Fin cfg0.N) : bodyAt0 (F := F) t = body (F := F) := by
  chain_rfl

end Cert.KernelIdeal.Ring

end
-- ==== Proof.Hold.lean ====
/- What a device holds of its memory while the body runs, and the effect of each access on it:
   a memref held at contents known through what the memref reads, loads and stores through the slots
   of a doubled buffer, and copies within the device. -/
module

public import proofs.«01_k».proof.Proof.Prog
public import Idealize.ShloMosaic.Lib.Rounds
public import Idealize.ShloMosaic.Lib.Transfers
public import Idealize.ShloMosaic.Lib.Pipeline.Launch
public import Idealize.ShloMosaic.Lib.Pipeline.Kit
public import Idealize.ShloMosaic.Lib.Tactic

@[expose] public section

set_option synthInstance.maxSize 4096

noncomputable section

namespace Cert.KernelIdeal.Ring

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the launch's, the ring's cells, the local copies' -/

abbrev UB : Type := URounds (GSem nD τ sig) Bool
abbrev UU : Type := UR sig nD τ × (UB × Counters)

/-- The model the assertions are about; waits are indexed by a step of the ring. -/
abbrev MM (F : FTy → Type) : Type := MT nD τ sig ℕ (Elt F) ℕ UU ℕ

abbrev EC : UEmb Counters (MM F) := countersEmb

abbrev 𝒱₀ : Variants := Variants.none

/-- The rest of the body at its device, to be run to `Q`. -/
abbrev go (c : Dev nD) {α : Type} (p : TP F α) (Q : α → sProp (MM F)) : sProp (MM F) :=
  wp frame (wpE (defs₀ (F := F)) 𝒱₀ (c : Thread nD τ) none) Set.univ p Q

/-! ## Memory -/

section Hold

variable {sp sp' : Space} {s : Shape} {e : EltTy}

/-- The elements of a memref, at contents `f` of its buffer. -/
def pts (c : Dev nD) (m : Memref sig .tc sp s e) (q : PosShare TreeShare) (f : Buf (Elt F) (m.view.loc (c : Thread nD τ))) : sProp (MM F) :=
  m.view.loc (c : Thread nD τ) ↦[m.view.set]{q} f

/-- The memref, holding contents of which `P`. -/
def holds (c : Dev nD) (m : Memref sig .tc sp s e) (P : (s.Idx → Elt F e) → Prop) : sProp (MM F) :=
  iprop(∃ f, ⌜P (m.view.read (Elt F) f)⌝ ∗ pts c m fullShare f)

/-- The memref, holding `V`. -/
abbrev hold (c : Dev nD) (m : Memref sig .tc sp s e) (V : s.Idx → Elt F e) : sProp (MM F) := holds c m fun W => W = V
/-- The memref, holding anything. -/
abbrev free (c : Dev nD) (m : Memref sig .tc sp s e) : sProp (MM F) := holds c m fun _ => True

instance pts_storable (c : Dev nD) (m : Memref sig .tc sp s e) (q) (f) : BI.Storable (upEmb : UEmb _ (MM F)) (pts c m q f) := by
  unfold pts; infer_instance
instance holds_storable (c : Dev nD) (m : Memref sig .tc sp s e) (P) : BI.Storable (upEmb : UEmb _ (MM F)) (holds c m P) := by
  unfold holds; infer_instance

theorem holds_mono (c : Dev nD) (m : Memref sig .tc sp s e) {P P' : (s.Idx → Elt F e) → Prop} (h : ∀ V, P V → P' V) :
    holds (F := F) c m P ⊢ holds c m P' := by
  unfold holds
  iintro ⟨%f, %hf, H⟩
  iexists f
  isplitr
  · ipureintro; exact h _ hf
  · iexact H

theorem holds_free (c : Dev nD) (m : Memref sig .tc sp s e) {P : (s.Idx → Elt F e) → Prop} : holds (F := F) c m P ⊢ free c m :=
  holds_mono c m fun _ _ => trivial

/-! ## What a device owes, its record of waits set aside -/

def owing (c : Dev nD) (O : CellTallies nD τ sig ℕ) : sProp (MM F) := iprop(∃ W, owes (c : Thread nD τ) O W)

/-! ## Copies within the device -/

/-- A copy under way: at its wait, the destination holding the source, and the source's elements back. -/
def flying (c : Dev nD) (sm : DmaSem sig) (src : Memref sig .tc sp s e) (S : Finset (Idx (src.view.loc (c : Thread nD τ))))
    (q : PosShare TreeShare) (f : Buf (Elt F) (src.view.loc (c : Thread nD τ))) (dst : Memref sig .tc sp' s e) : sProp (MM F) :=
  iprop(Transfers.Flight EC (c : Thread nD τ) (.dma sm) 0 dst.view.dmaCredit iprop(hold c dst (src.view.read (Elt F) f) ∗ pts c src q f)
    ∗ (src.view.loc (c : Thread nD τ) ↦[S \ src.view.set]{q} f))

theorem copy_start (c : Dev nD) (sm : DmaSem sig) (src : Memref sig .tc sp s e) (S : Finset (Idx (src.view.loc (c : Thread nD τ))))
    (q : PosShare TreeShare) (f : Buf (Elt F) (src.view.loc (c : Thread nD τ))) (dst : Memref sig .tc sp' s e)
    (hS : src.view.set ⊆ S) (hpos : 0 < s.numel)
    {hsrc : src.view.WordExact} {hdst : dst.view.WordExact} {hsem : DmaTarget.Typed (nD := nD) (τ := τ) (sig := sig) (p := .tc) sp (.dma sm) (.here dst)}
    {α : Type} (k : PUnit → TP F α) (Q : α → sProp (MM F)) :
    iprop((src.view.loc (c : Thread nD τ) ↦[S]{q} f) ∗ free c dst ∗ semVal ((c : Thread nD τ), .dma sm) 0)
      ⊢ iprop((flying c sm src S q f dst -∗ go c (k ⟨⟩) Q)
          -∗ go c (.op (.enqueueDma src (.here dst) (.dma sm) hsrc hdst hsem) k) Q) := by
  iintro ⟨Hs, Hd, Hv⟩ Hk
  ihave Hs := ((pointsTo_split_subset hS).1) $$ Hs
  icases Hs with ⟨Hs, Hr⟩
  unfold free holds pts
  icases Hd with ⟨%fd, -, Hd⟩
  iapply (Transfers.wp_dmaLocal EC 𝒱₀ (c : Thread nD τ) none (0 : ℕ) dst.view.dmaCredit (View.amount_dma _ _) (View.dmaCredit_pos _ hpos) (Finset.Subset.refl _)) $$ [Hs Hd Hv]
  · isplitl [Hs]; · iexact Hs
    isplitl [Hd]; · iexact Hd
    iexact Hv
  iintro Hf
  iapply Hk
  unfold flying
  isplitl [Hf]
  · refine (Transfers.Flight_mono EC (c : Thread nD τ) ?_)
    iintro ⟨Hd, Hs⟩
    isplitl [Hd]
    · unfold hold holds pts
      iexists _
      isplitr
      rotate_left
      · iexact Hd
      · ipureintro
        exact View.read_write_univ _ _
    · unfold pts; iexact Hs
  · iexact Hr

theorem copy_wait (c : Dev nD) (sm : DmaSem sig) (src : Memref sig .tc sp s e) (S : Finset (Idx (src.view.loc (c : Thread nD τ))))
    (q : PosShare TreeShare) (f : Buf (Elt F) (src.view.loc (c : Thread nD τ))) (dst : Memref sig .tc sp' s e)
    (hS : src.view.set ⊆ S)
    {hsrc : src.view.WordExact} {hdst : dst.view.WordExact} (O : CellTallies nD τ sig ℕ)
    {α : Type} (k : PUnit → TP F α) (Q : α → sProp (MM F)) :
    iprop(flying c sm src S q f dst ∗ owing c O ∗ MayWait (c : Thread nD τ) (.dma sm) 0 O)
      ⊢ iprop((iprop(hold c dst (src.view.read (Elt F) f) ∗ (src.view.loc (c : Thread nD τ) ↦[S]{q} f) ∗ semVal ((c : Thread nD τ), .dma sm) 0 ∗ owing c O) -∗ go c (k ⟨⟩) Q)
          -∗ go c (.op (.waitDma2 sm src dst hsrc hdst) k) Q) := by
  iintro ⟨Hf, HO, Hm⟩ Hk
  unfold owing
  icases HO with ⟨%W, HO⟩
  unfold flying
  icases Hf with ⟨Hf, Hr⟩
  iapply (Transfers.wp_waitLocalO EC 𝒱₀ (c : Thread nD τ) none (0 : ℕ) (rfl : dst.view.dmaCredit = dst.view.dmaCredit) (O := O) (W := W)) $$ [Hf HO Hm]
  · isplitl [Hf]; · iexact Hf
    isplitl [HO]; · iexact HO
    iexact Hm
  iintro ⟨⟨Hd, Hs⟩, Hv, HO⟩
  iapply Hk
  isplitl [Hd]; · iexact Hd
  isplitl [Hs Hr]
  · iapply ((pointsTo_split_subset hS).2)
    isplitl [Hs]
    · unfold pts; iexact Hs
    · iexact Hr
  isplitl [Hv]; · iexact Hv
  iexists _
  iexact HO

end Hold

/-! ## Loads and stores -/

/-- A matrix read through the slot it lies in: one row of matrices. -/
def unsq {s s' : Shape} {α : Type} (h : s'.numel = s.numel) (X : s'.Idx → α) : s.Idx → α := fun x => X ((Shape.reshapeEquiv h).symm x)

section Slot

variable {s s' : Shape} {e : EltTy}

theorem load_slot (c : Dev nD) (m : Memref sig .tc .vmem s e) (r : Rect s) (hr : ∀ a, r.stride a = 1) (hs : r.shape.Squeezes s')
    (V : s'.Idx → Elt F e) {hl : m.view.LoadsAt r.toLoadRect}
    {α : Type} (k : (r.shape.Idx → Elt F e) → TP F α) (Q : α → sProp (MM F)) :
    hold c ((m.slice r hr).squeeze s' hs) V
      ⊢ iprop((hold c ((m.slice r hr).squeeze s' hs) V -∗ go c (k (unsq hs.numel_eq V)) Q)
          -∗ go c (.op (.load m r.toLoadRect hl) k) Q) := by
  iintro H Hk
  unfold hold holds pts
  icases H with ⟨%f, %hf, H⟩
  have hset : ((m.slice r hr).squeeze s' hs).view.set = (m.access r).set := View.set_reshape _ _
  iapply (wp_load_rect 𝒱₀ (c : Thread nD τ) none Set.univ (m := m) (r := r) (hl := hl) (S := ((m.slice r hr).squeeze s' hs).view.set) (f := f) (by rw [hset])) $$ [H]
  · iexact H
  iintro H
  have hread : (m.access r).read (Elt F) f = unsq hs.numel_eq V := by
    rw [← hf]
    funext x
    show _ = (m.access r).read (Elt F) f (Shape.reshapeEquiv _ ((Shape.reshapeEquiv _).symm x))
    rw [Equiv.apply_symm_apply]
  rw [hread]
  iapply Hk
  iexists f
  isplitr
  · ipureintro; exact hf
  · iexact H

theorem load_rect (c : Dev nD) (m : Memref sig .tc .vmem s e) (r : Rect s) (P : (s.Idx → Elt F e) → Prop) {hl : m.view.LoadsAt r.toLoadRect}
    {α : Type} (k : (r.shape.Idx → Elt F e) → TP F α) (Q : α → sProp (MM F)) :
    holds c m P
      ⊢ iprop((∀ V, ⌜P V⌝ -∗ hold c m V -∗ go c (k (fun x => V (r.emb x))) Q)
          -∗ go c (.op (.load m r.toLoadRect hl) k) Q) := by
  iintro H Hk
  unfold holds pts
  icases H with ⟨%f, %hf, H⟩
  iapply (wp_load_rect 𝒱₀ (c : Thread nD τ) none Set.univ (m := m) (r := r) (hl := hl) (S := m.view.set) (f := f) (View.set_slice_subset _ _)) $$ [H]
  · iexact H
  iintro H
  iapply Hk $$ %(m.view.read (Elt F) f) %hf
  unfold hold holds pts
  iexists f
  isplitr
  · ipureintro; rfl
  · iexact H

/-- A store through a rectangle leaves the rectangle's elements stored and the others as they were. -/
theorem store_rect (c : Dev nD) (m : Memref sig .tc .vmem s e) (r : Rect s) (w : r.shape.Idx → Elt F e) (P P' : (s.Idx → Elt F e) → Prop)
    (hP : ∀ V V' : s.Idx → Elt F e, P V → (∀ x, V' (r.emb x) = w x) → (∀ y, y ∉ r.set → V' y = V y) → P' V')
    {hx : (m.access r).Stores Finset.univ} {hm : Finset.univ = Finset.univ ∨ ∀ a, r.stride a = 1}
    {α : Type} (k : PUnit → TP F α) (Q : α → sProp (MM F)) :
    holds c m P
      ⊢ iprop((holds c m P' -∗ go c (k ⟨⟩) Q)
          -∗ go c (.op (.store m r w Finset.univ hx hm) k) Q) := by
  iintro H Hk
  unfold holds pts
  icases H with ⟨%f, %hf, H⟩
  iapply (wp_store 𝒱₀ (c : Thread nD τ) none Set.univ (m := m) (r := r) (w := w) (hx := hx) (hm := hm) (S := m.view.set) (f := f) (View.set_slice_subset _ _)) $$ [H]
  · iexact H
  iintro H
  iapply Hk
  iexists _
  isplitr
  rotate_left
  · iexact H
  · ipureintro
    refine hP _ _ hf (fun x => View.read_slice_write_emb r f w (Finset.mem_univ x)) (fun y hy => View.read_slice_write_of_not_mem r f w _ ?_)
    rw [Rect.map_emb_univ]; exact hy

end Slot

end Cert.KernelIdeal.Ring

end
-- ==== Proof.Levels.lean ====
/- The semaphores' parts in the protocol, and the order in which they are waited for: everything a
   device still owes when it waits lies above what it waits for. -/
module

public import proofs.«01_k».proof.Proof.Hold

@[expose] public section

set_option synthInstance.maxSize 4096

noncomputable section

namespace Cert.KernelIdeal.Ring

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- What a semaphore is for. -/
inductive Kd where
  | bar
  | credit (d : Bool)
  | send (d : Bool) (k : Fin 2)
  | recv (d : Bool) (k : Fin 2)
  | loc
deriving DecidableEq

def kindOf : SemLoc sig → Kd
  | .reg q => match (q : Fin 3) with
    | 0 => .credit false
    | 1 => .credit true
    | 2 => .bar
  | .dma q => match (q : Fin 14) with
    | 6 => .send false 0
    | 7 => .send false 1
    | 8 => .recv false 0
    | 9 => .recv false 1
    | 10 => .send true 0
    | 11 => .send true 1
    | 12 => .recv true 0
    | 13 => .recv true 1
    | _ => .loc

theorem kind_bar : kindOf (.reg bsem) = .bar := rfl
theorem kind_credit (d : Bool) : kindOf (.reg (csem d)) = .credit d := by cases d <;> rfl
theorem kind_send (d : Bool) (k : Fin 2) : kindOf (.dma (ssem d k)) = .send d k := by cases d <;> fin_cases k <;> rfl
theorem kind_recv (d : Bool) (k : Fin 2) : kindOf (.dma (rsem d k)) = .recv d k := by cases d <;> fin_cases k <;> rfl
theorem kind_x (k : Fin 2) : kindOf (.dma (xsem k)) = .loc := by fin_cases k <;> rfl
theorem kind_w (k : Fin 2) : kindOf (.dma (wsem k)) = .loc := by fin_cases k <;> rfl
theorem kind_o (k : Fin 2) : kindOf (.dma (osem k)) = .loc := by fin_cases k <;> rfl

/-- The cells, on their devices. -/
abbrev barCell (c : Dev nD) : GSem nD τ sig := ((c : Thread nD τ), .reg bsem)
abbrev crCell (d : Bool) (c : Dev nD) : GSem nD τ sig := ((c : Thread nD τ), .reg (csem d))
abbrev sendCell (d : Bool) (k : Fin 2) (c : Dev nD) : GSem nD τ sig := ((c : Thread nD τ), .dma (ssem d k))
abbrev recvCell (d : Bool) (k : Fin 2) (c : Dev nD) : GSem nD τ sig := ((c : Thread nD τ), .dma (rsem d k))

/-- The steps at which a cell is waited for. -/
def L (g : GSem nD τ sig) : Finset ℕ := if g.1.2 = .tc then Finset.range 8 else ∅

/-- The order of the waits. -/
def rank : Kd → ℕ → ℕ
  | .bar, _ => 1
  | .recv _ _, s => 2 * s + 2
  | .credit _, s => 2 * s + 3
  | _, _ => 0
def lv (g : GSem nD τ sig) (s : ℕ) : ℕ := rank (kindOf g.2) s

theorem L_of_ne (g : GSem nD τ sig) (h : g.1.2 ≠ .tc) : L g = ∅ := if_neg h
theorem L_tc (c : Dev nD) (sm : SemLoc sig) : L ((c : Thread nD τ), sm) = Finset.range 8 := if_pos rfl

/-- Everything in `O` is waited for after level `n`. -/
def Above (n : ℕ) (O : CellTallies nD τ sig ℕ) : Prop := ∀ g u, 0 < O g u → u ∈ L g ∧ n < lv g u

theorem Above.zero (n : ℕ) : Above n 0 := fun g u h => absurd h (Nat.lt_irrefl 0)

theorem Above.add {n : ℕ} {O O' : CellTallies nD τ sig ℕ} (h : Above n O) (h' : Above n O') : Above n (O + O') := fun g u hp => by
  rw [Pi.add_apply, Finsupp.add_apply] at hp
  rcases Nat.eq_zero_or_pos (O g u) with h0 | h0
  · exact h' g u (by omega)
  · exact h g u h0

theorem Above.tally {n : ℕ} {g : GSem nD τ sig} {s k : ℕ} (hs : s ∈ L g) (hn : n < lv g s) : Above n (tallyAt g s k) := fun g' u hp => by
  rw [tallyAt_apply] at hp
  by_cases h : g' = g ∧ u = s
  · rw [h.1, h.2]; exact ⟨hs, hn⟩
  · rw [if_neg h] at hp; exact absurd hp (Nat.lt_irrefl 0)

theorem Above.mono {n n' : ℕ} {O : CellTallies nD τ sig ℕ} (h : Above n O) (hn : n' ≤ n) : Above n' O := fun g u hp =>
  ⟨(h g u hp).1, lt_of_le_of_lt hn (h g u hp).2⟩

theorem mayWait (c : Dev nD) (sm : SemLoc sig) (s n : ℕ) (hs : s < 8) (O : CellTallies nD τ sig ℕ) (hn : rank (kindOf sm) s ≤ n) (hO : Above n O) :
    (levAts L lv : sProp (MM F)) ⊢ MayWait (c : Thread nD τ) sm s O :=
  MayOwe.of_cut (L := L) (lev := lv) n (fun p hp => by rw [Finset.mem_singleton.mp hp, L_tc]; exact Finset.mem_range.mpr hs)
    (fun g u hg => (hO g u hg).1)
    (fun p hp => by rw [Finset.mem_singleton.mp hp]; exact hn)
    (fun g u hg => (hO g u hg).2)

/-! ## What a device owes from step `s` on -/

/-- The slot a step sends from, and the one it receives in. -/
def slotA (s : ℕ) : Fin 2 := ⟨s % 2, Nat.mod_lt _ (by decide)⟩
def slotB (s : ℕ) : Fin 2 := ⟨(s + 1) % 2, Nat.mod_lt _ (by decide)⟩

/-- What a transfer of a slot credits. -/
@[irreducible] def N (d : Bool) : ℕ := (cslot (comm d) 0).view.dmaCredit
theorem slot_credit (d : Bool) (k : Fin 2) : (cslot (comm d) k).view.dmaCredit = N d := by unfold N; rfl
theorem N_pos (d : Bool) : 0 < N d := by rw [← slot_credit d 0]; exact View.dmaCredit_pos _ (by decide)

/-- The two credits of step `s`; the last step gives none. -/
def owedCr (c : Dev nD) (s : ℕ) : CellTallies nD τ sig ℕ :=
  if s < 6 then tallyAt (crCell true (up true c)) s 1 + tallyAt (crCell false (up false c)) s 1 else 0
/-- The two arrivals of step `s`. -/
def owedRecv (c : Dev nD) (s : ℕ) : CellTallies nD τ sig ℕ :=
  tallyAt (recvCell true (slotB s) (down true c)) s (N true) + tallyAt (recvCell false (slotB s) (down false c)) s (N false)

/-- Everything owed from step `s` on. -/
def owe (c : Dev nD) (s : ℕ) : CellTallies nD τ sig ℕ := ∑ i ∈ Finset.Ico s 7, (owedCr c i + owedRecv c i)

theorem owe_last (c : Dev nD) : owe c 7 = 0 := by unfold owe; rw [Finset.Ico_self, Finset.sum_empty]
theorem owe_succ (c : Dev nD) (s : ℕ) (hs : s < 7) : owe c s = (owe c (s + 1) + owedCr c s) + owedRecv c s := by
  have h : Finset.Ico s 7 = insert s (Finset.Ico (s + 1) 7) := by
    ext x; simp only [Finset.mem_Ico, Finset.mem_insert]; omega
  unfold owe
  rw [h, Finset.sum_insert (by simp), add_comm, add_assoc]

theorem above_cr (c : Dev nD) (s n : ℕ) (hs : n < 2 * s + 3) : Above n (owedCr c s) := by
  unfold owedCr
  by_cases h : s < 6
  · rw [if_pos h]
    refine Above.add (Above.tally ?_ ?_) (Above.tally ?_ ?_) <;>
      first
        | (rw [L_tc]; exact Finset.mem_range.mpr (by omega))
        | (show n < rank (kindOf _) s; rw [kind_credit]; exact hs)
  · rw [if_neg h]; exact Above.zero n

theorem above_recv (c : Dev nD) (s n : ℕ) (h7 : s < 7) (hs : n < 2 * s + 2) : Above n (owedRecv c s) := by
  unfold owedRecv
  refine Above.add (Above.tally ?_ ?_) (Above.tally ?_ ?_) <;>
    first
      | (rw [L_tc]; exact Finset.mem_range.mpr (by omega))
      | (show n < rank (kindOf _) s; rw [kind_recv]; exact hs)

theorem above_owe (c : Dev nD) (s n : ℕ) (hs : n < 2 * s + 2) : Above n (owe c s) := by
  unfold owe
  have : ∀ T : Finset ℕ, (∀ i ∈ T, s ≤ i ∧ i < 7) → Above n (∑ i ∈ T, (owedCr c i + owedRecv c i)) := by
    intro T
    induction T using Finset.induction_on with
    | empty => intro _; rw [Finset.sum_empty]; exact Above.zero n
    | insert i T hi ih =>
      intro hT
      rw [Finset.sum_insert hi]
      obtain ⟨h1, h2⟩ := hT i (Finset.mem_insert_self _ _)
      exact ((above_cr c i n (by omega)).add (above_recv c i n h2 (by omega))).add (ih fun j hj => hT j (Finset.mem_insert_of_mem hj))
  exact this _ fun i hi => Finset.mem_Ico.mp hi

end Cert.KernelIdeal.Ring

end
-- ==== Proof.Frag.lean ====
/- The body's local fragments run: the chunks' and the columns' copies, the product of a chunk and a
   column half tile after tile, and the combination of a received slot with a product. -/
module

public import proofs.«01_k».proof.Proof.Levels

@[expose] public section

set_option synthInstance.maxSize 4096

noncomputable section

namespace Cert.KernelIdeal.Ring

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The left operand's chunks -/

/-- The chunk of the left operand at an offset. -/
def chunk (c : Dev nD) (off : Fin 2 → ℕ) (h : ∀ a, off a + S512x512.size a ≤ S4096x512.size a)
    (f : Buf (Elt F) (mX.view.loc (c : Thread nD τ))) : S512x512.Idx → Elt F .f32 := (xsrc off h).view.read (Elt F) f

/-- A share of the left operand, for the copies into slot `k`. -/
def xq (c : Dev nD) (q : PosShare TreeShare) (f : Buf (Elt F) (mX.view.loc (c : Thread nD τ))) : sProp (MM F) :=
  mX.view.loc (c : Thread nD τ) ↦[Finset.univ]{q} f
def wq (c : Dev nD) (q : PosShare TreeShare) (f : Buf (Elt F) (mW.view.loc (c : Thread nD τ))) : sProp (MM F) :=
  mW.view.loc (c : Thread nD τ) ↦[Finset.univ]{q} f

/-- A chunk on its way into slot `k`. -/
def xfly (c : Dev nD) (off : Fin 2 → ℕ) (h : ∀ a, off a + S512x512.size a ≤ S4096x512.size a) (k : Fin 2) (q : PosShare TreeShare)
    (f : Buf (Elt F) (mX.view.loc (c : Thread nD τ))) : sProp (MM F) :=
  flying c (xsem k) (xsrc off h) Finset.univ q f (xslot k)

theorem x_start (c : Dev nD) (off : Fin 2 → ℕ) (h : ∀ a, off a + S512x512.size a ≤ S4096x512.size a) (k : Fin 2) (q : PosShare TreeShare)
    (f : Buf (Elt F) (mX.view.loc (c : Thread nD τ))) {α : Type} (p : PUnit → TP F α) (Q : α → sProp (MM F)) :
    iprop(xq c q f ∗ free c (xslot k) ∗ semVal ((c : Thread nD τ), .dma (xsem k)) 0)
      ⊢ iprop((xfly c off h k q f -∗ go c (p ⟨⟩) Q) -∗ go c (xStart off h k >>= p) Q) :=
  copy_start c (xsem k) (xsrc off h) Finset.univ q f (xslot k) (Finset.subset_univ _) (by decide) p Q

theorem x_wait (c : Dev nD) (off : Fin 2 → ℕ) (h : ∀ a, off a + S512x512.size a ≤ S4096x512.size a) (k : Fin 2) (q : PosShare TreeShare)
    (f : Buf (Elt F) (mX.view.loc (c : Thread nD τ))) (O : CellTallies nD τ sig ℕ) (hO : Above 0 O)
    {α : Type} (p : PUnit → TP F α) (Q : α → sProp (MM F)) :
    iprop(levAts L lv ∗ xfly c off h k q f ∗ owing c O)
      ⊢ iprop((iprop(hold c (xslot k) (chunk c off h f) ∗ xq c q f ∗ semVal ((c : Thread nD τ), .dma (xsem k)) 0 ∗ owing c O) -∗ go c (p ⟨⟩) Q)
          -∗ go c (xWait off h k >>= p) Q) := by
  iintro ⟨Hl, Hf, HO⟩
  unfold xfly xq
  iapply (copy_wait c (xsem k) (xsrc off h) Finset.univ q f (xslot k) (Finset.subset_univ _) O p Q)
  isplitl [Hf]; · iexact Hf
  isplitl [HO]; · iexact HO
  iapply (mayWait c (.dma (xsem k)) 0 0 (by decide) O (by rw [kind_x]; exact Nat.le_refl _) hO)
  iexact Hl

/-! ## The right operand's column tiles -/

/-- Columns `o … o + 1023` of the right operand. -/
def wtile (c : Dev nD) (o : ℕ) (h : o + 1024 ≤ 8192) (f : Buf (Elt F) (mW.view.loc (c : Thread nD τ))) : S512x1024.Idx → Elt F .f32 :=
  (wsrc o h).view.read (Elt F) f

def wfly (c : Dev nD) (o : ℕ) (h : o + 1024 ≤ 8192) (k : Fin 2) (q : PosShare TreeShare) (f : Buf (Elt F) (mW.view.loc (c : Thread nD τ))) : sProp (MM F) :=
  flying c (wsem k) (wsrc o h) Finset.univ q f (wslot k)

theorem w_start (c : Dev nD) (o : ℕ) (h : o + 1024 ≤ 8192) (k : Fin 2) (q : PosShare TreeShare) (f : Buf (Elt F) (mW.view.loc (c : Thread nD τ)))
    (P : (S512x1024.Idx → Elt F .f32) → Prop)
    {α : Type} (p : PUnit → TP F α) (Q : α → sProp (MM F)) :
    iprop(wq c q f ∗ holds c (wslot k) P ∗ semVal ((c : Thread nD τ), .dma (wsem k)) 0)
      ⊢ iprop((wfly c o h k q f -∗ go c (p ⟨⟩) Q) -∗ go c (wStart o h k >>= p) Q) := by
  iintro ⟨Hw, Hs, Hv⟩
  unfold wq
  iapply (copy_start c (wsem k) (wsrc o h) Finset.univ q f (wslot k) (Finset.subset_univ _) (by decide) p Q)
  isplitl [Hw]; · iexact Hw
  isplitl [Hs]; · iapply (holds_free c (wslot k)) $$ Hs
  iexact Hv

theorem w_wait (c : Dev nD) (o : ℕ) (h : o + 1024 ≤ 8192) (k : Fin 2) (q : PosShare TreeShare) (f : Buf (Elt F) (mW.view.loc (c : Thread nD τ)))
    (O : CellTallies nD τ sig ℕ) (hO : Above 0 O)
    {α : Type} (p : PUnit → TP F α) (Q : α → sProp (MM F)) :
    iprop(levAts L lv ∗ wfly c o h k q f ∗ owing c O)
      ⊢ iprop((iprop(hold c (wslot k) (wtile c o h f) ∗ wq c q f ∗ semVal ((c : Thread nD τ), .dma (wsem k)) 0 ∗ owing c O) -∗ go c (p ⟨⟩) Q)
          -∗ go c (wWait o h k >>= p) Q) := by
  iintro ⟨Hl, Hf, HO⟩
  unfold wfly wq
  iapply (copy_wait c (wsem k) (wsrc o h) Finset.univ q f (wslot k) (Finset.subset_univ _) O p Q)
  isplitl [Hf]; · iexact Hf
  isplitl [HO]; · iexact HO
  iapply (mayWait c (.dma (wsem k)) 0 0 (by decide) O (by rw [kind_w]; exact Nat.le_refl _) hO)
  iexact Hl

theorem wtile_congr {β : Type} {T : (S512x1024.Idx → Elt F .f32) → β} (c : Dev nD) (f : Buf (Elt F) (mW.view.loc (c : Thread nD τ)))
    {o o' : ℕ} (h : o + 1024 ≤ 8192) (h' : o' + 1024 ≤ 8192) (e : o' = o) : T (wtile c o h f) = T (wtile c o' h' f) := by
  subst e; rfl

/-! ## The product of a chunk and a column half -/

/-- What a load of a slot of the left operand's staging reads, the slot holding `X`. -/
abbrev xval (X : S512x512.Idx → Elt F .f32) : Vec F S1x512x512 .f32 := unsq squeezes_S1x512x512_S512x512.numel_eq X
abbrev wval (V : S512x1024.Idx → Elt F .f32) : Vec F S1x512x1024 .f32 := unsq squeezes_S1x512x1024_S512x1024.numel_eq V

/-- The product of the chunk `X` and the column half at `o`: column tile `q` of it is the product with column tile `q`. -/
def halfOf (c : Dev nD) (X : S512x512.Idx → Elt F .f32) (f : Buf (Elt F) (mW.view.loc (c : Thread nD τ))) (o : ℕ) (ho : o + 4096 ≤ 8192) :
    S512x4096.Idx → Elt F .f32 := fun i =>
  have hi : (i 1).val < 4096 := (i 1).isLt
  tileDot (xval X) (wval (wtile c (o + 1024 * ((i 1).val / 1024)) (by omega) f))
    (Shape.pair (d := ![512, 1024]) (i 0) (⟨(i 1).val % 1024, Nat.mod_lt _ (by decide)⟩ : Fin 1024))

/-- The first `n` columns are those of `H`. -/
def colsDone (H : S512x4096.Idx → Elt F .f32) (n : ℕ) (V : S512x4096.Idx → Elt F .f32) : Prop := ∀ i : S512x4096.Idx, (i 1).val < n → V i = H i

theorem colsDone_step (c : Dev nD) (X : S512x512.Idx → Elt F .f32) (f : Buf (Elt F) (mW.view.loc (c : Thread nD τ))) (o : ℕ) (ho : o + 4096 ≤ 8192)
    (q : ℕ) (hq : q < 4) (V V' : S512x4096.Idx → Elt F .f32) (hV : colsDone (halfOf c X f o ho) (1024 * q) V)
    (h1 : ∀ x, V' ((colRect (1024 * q) (by omega)).emb x) = tileDot (xval X) (wval (wtile c (o + 1024 * q) (by omega) f)) x)
    (h2 : ∀ y, y ∉ (colRect (1024 * q) (by omega)).set → V' y = V y) :
    colsDone (halfOf c X f o ho) (1024 * (q + 1)) V' := fun i hi => by
  by_cases hin : (i 1).val < 1024 * q
  · rw [h2 i, hV i hin]
    intro hm
    rw [← Rect.map_emb_univ] at hm
    obtain ⟨x, -, rfl⟩ := Finset.mem_map.mp hm
    have : ((colRect (1024 * q) (by omega)).emb x 1).val = 1024 * q + 1 * (x 1).val := rfl
    omega
  · have hlt : (i 1).val - 1024 * q < 1024 := by omega
    have hi' : i = (colRect (1024 * q) (by omega)).emb (Shape.pair (d := ![512, 1024]) (i 0) (⟨(i 1).val - 1024 * q, hlt⟩ : Fin 1024)) := by
      funext a
      apply Fin.ext
      fin_cases a
      · show (i 0).val = 0 + 1 * (i 0).val
        omega
      · show (i 1).val = 1024 * q + 1 * ((i 1).val - 1024 * q)
        omega
    rw [hi', h1, ← hi']
    unfold halfOf
    have hd : (i 1).val / 1024 = q := by omega
    have hmod : (i 1).val % 1024 = (i 1).val - 1024 * q := by omega
    simp only [hmod]
    exact wtile_congr (T := fun W => tileDot (xval X) (wval W) _) c f _ _ (by rw [hd])

theorem colsDone_all (H V : S512x4096.Idx → Elt F .f32) (h : colsDone H 4096 V) : V = H := funext fun i => h i (i 1).isLt

theorem dot_store (c : Dev nD) (X : S512x512.Idx → Elt F .f32) (f : Buf (Elt F) (mW.view.loc (c : Thread nD τ))) (o : ℕ) (ho : o + 4096 ≤ 8192)
    (k : Fin 2) (q : ℕ) (hq : q < 4) (dst : Memref sig .tc .vmem S512x4096 .f32)
    {α : Type} (p : PUnit → TP F α) (Q : α → sProp (MM F)) :
    iprop(hold c (wslot k) (wtile c (o + 1024 * q) (by omega) f) ∗ holds c dst (colsDone (halfOf c X f o ho) (1024 * q)))
      ⊢ iprop((iprop(hold c (wslot k) (wtile c (o + 1024 * q) (by omega) f) ∗ holds c dst (colsDone (halfOf c X f o ho) (1024 * (q + 1)))) -∗ go c (p ⟨⟩) Q)
          -∗ go c (dotStore (xval X) k (1024 * q) (by omega) dst >>= p) Q) := by
  iintro ⟨Hw, Hd⟩ Hk
  unfold dotStore wLoad
  simp only [bind_assoc, Prog.bind_lift]
  iapply (load_slot c mWs (slotRect 512 1024 k) (fun _ => rfl) squeezes_S1x512x1024_S512x1024 (wtile c (o + 1024 * q) (by omega) f)) $$ [Hw]
  · iexact Hw
  iintro Hw
  iapply (load_rect c dst (colRect (1024 * q) (by omega)) _) $$ [Hd]
  · iexact Hd
  iintro %V %hV Hd
  iapply (store_rect c dst (colRect (1024 * q) (by omega)) _ (fun W => W = V) (colsDone (halfOf c X f o ho) (1024 * (q + 1)))
    (fun V₀ V' hV₀ h1 h2 => colsDone_step c X f o ho q hq V V' hV h1 (fun y hy => by rw [h2 y hy, hV₀]))) $$ [Hd]
  · iexact Hd
  iintro Hd
  iapply Hk
  isplitl [Hw]; · iexact Hw
  iexact Hd

/-- What the products use: the right operand, a share for each of its slots, the slots and their semaphores. -/
def kit (c : Dev nD) (f : Buf (Elt F) (mW.view.loc (c : Thread nD τ))) : sProp (MM F) :=
  iprop(wq c fullShare.left f ∗ wq c fullShare.right f ∗ free c (wslot 0) ∗ free c (wslot 1)
    ∗ semVal ((c : Thread nD τ), .dma (wsem 0)) 0 ∗ semVal ((c : Thread nD τ), .dma (wsem 1)) 0)

theorem half_run (c : Dev nD) (X : S512x512.Idx → Elt F .f32) (f : Buf (Elt F) (mW.view.loc (c : Thread nD τ))) (k : Fin 2) (o : ℕ) (ho : o + 4096 ≤ 8192)
    (dst : Memref sig .tc .vmem S512x4096 .f32) (O : CellTallies nD τ sig ℕ) (hO : Above 0 O)
    {α : Type} (p : PUnit → TP F α) (Q : α → sProp (MM F)) :
    iprop(levAts L lv ∗ hold c (xslot k) X ∗ kit c f ∗ owing c O ∗ free c dst)
      ⊢ iprop((iprop(hold c (xslot k) X ∗ kit c f ∗ owing c O ∗ hold c dst (halfOf c X f o ho)) -∗ go c (p ⟨⟩) Q)
          -∗ go c (half k o ho dst >>= p) Q) := by
  iintro ⟨#Hl, Hx, Hkit, HO, Hd⟩ Hk
  unfold kit
  icases Hkit with ⟨HwL, HwR, Hs0, Hs1, Hv0, Hv1⟩
  unfold half xLoad
  simp only [bind_assoc, Prog.bind_lift]
  iapply (w_start c (o + 0) _ 0 fullShare.left f (fun _ => True)) $$ [HwL Hs0 Hv0]
  · isplitl [HwL]; · iexact HwL
    isplitl [Hs0]; · iexact Hs0
    iexact Hv0
  iintro Hf0
  iapply (load_slot c mXs (slotRect 512 512 k) (fun _ => rfl) squeezes_S1x512x512_S512x512 X) $$ [Hx]
  · iexact Hx
  iintro Hx
  iapply (w_start c (o + 1024) _ 1 fullShare.right f (fun _ => True)) $$ [HwR Hs1 Hv1]
  · isplitl [HwR]; · iexact HwR
    isplitl [Hs1]; · iexact Hs1
    iexact Hv1
  iintro Hf1
  -- column tile 0
  iapply (w_wait c (o + 0) _ 0 fullShare.left f O hO) $$ [Hf0 HO]
  · isplitl []; · iexact Hl
    isplitl [Hf0]; · iexact Hf0
    iexact HO
  iintro ⟨Hs0, HwL, Hv0, HO⟩
  iapply (dot_store c X f o ho 0 0 (by decide) dst) $$ [Hs0 Hd]
  · isplitl [Hs0]; · iexact Hs0
    iapply (holds_mono c dst (fun V _ i hi => absurd hi (Nat.not_lt_zero _))) $$ Hd
  iintro ⟨Hs0, Hd⟩
  iapply (w_start c (o + 2048) _ 0 fullShare.left f _) $$ [HwL Hs0 Hv0]
  · isplitl [HwL]; · iexact HwL
    isplitl [Hs0]; · iexact Hs0
    iexact Hv0
  iintro Hf0
  -- column tile 1
  iapply (w_wait c (o + 1024) _ 1 fullShare.right f O hO) $$ [Hf1 HO]
  · isplitl []; · iexact Hl
    isplitl [Hf1]; · iexact Hf1
    iexact HO
  iintro ⟨Hs1, HwR, Hv1, HO⟩
  iapply (dot_store c X f o ho 1 1 (by decide) dst) $$ [Hs1 Hd]
  · isplitl [Hs1]; · iexact Hs1
    iexact Hd
  iintro ⟨Hs1, Hd⟩
  iapply (w_start c (o + 3072) _ 1 fullShare.right f _) $$ [HwR Hs1 Hv1]
  · isplitl [HwR]; · iexact HwR
    isplitl [Hs1]; · iexact Hs1
    iexact Hv1
  iintro Hf1
  -- column tile 2
  iapply (w_wait c (o + 2048) _ 0 fullShare.left f O hO) $$ [Hf0 HO]
  · isplitl []; · iexact Hl
    isplitl [Hf0]; · iexact Hf0
    iexact HO
  iintro ⟨Hs0, HwL, Hv0, HO⟩
  iapply (dot_store c X f o ho 0 2 (by decide) dst) $$ [Hs0 Hd]
  · isplitl [Hs0]; · iexact Hs0
    iexact Hd
  iintro ⟨Hs0, Hd⟩
  -- column tile 3
  iapply (w_wait c (o + 3072) _ 1 fullShare.right f O hO) $$ [Hf1 HO]
  · isplitl []; · iexact Hl
    isplitl [Hf1]; · iexact Hf1
    iexact HO
  iintro ⟨Hs1, HwR, Hv1, HO⟩
  iapply (dot_store c X f o ho 1 3 (by decide) dst) $$ [Hs1 Hd]
  · isplitl [Hs1]; · iexact Hs1
    iexact Hd
  iintro ⟨Hs1, Hd⟩
  iapply Hk
  isplitl [Hx]; · iexact Hx
  isplitl [HwL HwR Hs0 Hs1 Hv0 Hv1]
  · isplitl [HwL]; · iexact HwL
    isplitl [HwR]; · iexact HwR
    isplitl [Hs0]; · iapply (holds_free c (wslot 0)) $$ Hs0
    isplitl [Hs1]; · iapply (holds_free c (wslot 1)) $$ Hs1
    isplitl [Hv0]; · iexact Hv0
    iexact Hv1
  isplitl [HO]; · iexact HO
  · iapply (holds_mono c dst (fun V hV => colsDone_all _ V hV)) $$ Hd

/-- What the chunks' copies use: the left operand, a share for each slot, the slots and their semaphores. -/
def xkit (c : Dev nD) (f : Buf (Elt F) (mX.view.loc (c : Thread nD τ))) : sProp (MM F) :=
  iprop(xq c fullShare.left f ∗ xq c fullShare.right f ∗ free c (xslot 0) ∗ free c (xslot 1)
    ∗ semVal ((c : Thread nD τ), .dma (xsem 0)) 0 ∗ semVal ((c : Thread nD τ), .dma (xsem 1)) 0)

/-- Start both chunks' copies. -/
theorem x_starts (c : Dev nD) (o₀ o₁ : Fin 2 → ℕ) (h₀ : ∀ a, o₀ a + S512x512.size a ≤ S4096x512.size a) (h₁ : ∀ a, o₁ a + S512x512.size a ≤ S4096x512.size a)
    (f : Buf (Elt F) (mX.view.loc (c : Thread nD τ))) {α : Type} (p : PUnit → TP F α) (Q : α → sProp (MM F)) :
    xkit c f
      ⊢ iprop((iprop(xfly c o₀ h₀ 0 fullShare.left f ∗ xfly c o₁ h₁ 1 fullShare.right f) -∗ go c (p ⟨⟩) Q)
          -∗ go c (xStart o₀ h₀ 0 >>= fun _ => xStart o₁ h₁ 1 >>= p) Q) := by
  unfold xkit
  iintro ⟨HxL, HxR, Hs0, Hs1, Hv0, Hv1⟩ Hk
  iapply (x_start c o₀ h₀ 0 fullShare.left f) $$ [HxL Hs0 Hv0]
  · isplitl [HxL]; · iexact HxL
    isplitl [Hs0]; · iexact Hs0
    iexact Hv0
  iintro Hf0
  iapply (x_start c o₁ h₁ 1 fullShare.right f) $$ [HxR Hs1 Hv1]
  · isplitl [HxR]; · iexact HxR
    isplitl [Hs1]; · iexact Hs1
    iexact Hv1
  iintro Hf1
  iapply Hk
  isplitl [Hf0]; · iexact Hf0
  iexact Hf1

/-- Wait for each chunk and multiply it with its column half. -/
theorem halves_run (c : Dev nD) (o₀ o₁ : Fin 2 → ℕ) (h₀ : ∀ a, o₀ a + S512x512.size a ≤ S4096x512.size a) (h₁ : ∀ a, o₁ a + S512x512.size a ≤ S4096x512.size a)
    (f : Buf (Elt F) (mX.view.loc (c : Thread nD τ))) (g : Buf (Elt F) (mW.view.loc (c : Thread nD τ)))
    (d₀ d₁ : Memref sig .tc .vmem S512x4096 .f32) (O : CellTallies nD τ sig ℕ) (hO : Above 0 O)
    {α : Type} (p : PUnit → TP F α) (Q : α → sProp (MM F)) :
    iprop(levAts L lv ∗ xfly c o₀ h₀ 0 fullShare.left f ∗ xfly c o₁ h₁ 1 fullShare.right f ∗ kit c g ∗ owing c O ∗ free c d₀ ∗ free c d₁)
      ⊢ iprop((iprop(xkit c f ∗ kit c g ∗ owing c O ∗ hold c d₀ (halfOf c (chunk c o₀ h₀ f) g 0 (by omega)) ∗ hold c d₁ (halfOf c (chunk c o₁ h₁ f) g 4096 (by omega)))
            -∗ go c (p ⟨⟩) Q)
          -∗ go c (xWait o₀ h₀ 0 >>= fun _ => half 0 0 (by omega) d₀ >>= fun _ => xWait o₁ h₁ 1 >>= fun _ => half 1 4096 (by omega) d₁ >>= p) Q) := by
  iintro ⟨#Hl, Hf0, Hf1, Hkit, HO, Hd0, Hd1⟩ Hk
  iapply (x_wait c o₀ h₀ 0 fullShare.left f O hO) $$ [Hf0 HO]
  · isplitl []; · iexact Hl
    isplitl [Hf0]; · iexact Hf0
    iexact HO
  iintro ⟨Hs0, HxL, Hv0, HO⟩
  iapply (half_run c (chunk c o₀ h₀ f) g 0 0 _ d₀ O hO) $$ [Hs0 Hkit HO Hd0]
  · isplitl []; · iexact Hl
    isplitl [Hs0]; · iexact Hs0
    isplitl [Hkit]; · iexact Hkit
    isplitl [HO]; · iexact HO
    iexact Hd0
  iintro ⟨Hs0, Hkit, HO, Hd0⟩
  iapply (x_wait c o₁ h₁ 1 fullShare.right f O hO) $$ [Hf1 HO]
  · isplitl []; · iexact Hl
    isplitl [Hf1]; · iexact Hf1
    iexact HO
  iintro ⟨Hs1, HxR, Hv1, HO⟩
  iapply (half_run c (chunk c o₁ h₁ f) g 1 4096 _ d₁ O hO) $$ [Hs1 Hkit HO Hd1]
  · isplitl []; · iexact Hl
    isplitl [Hs1]; · iexact Hs1
    isplitl [Hkit]; · iexact Hkit
    isplitl [HO]; · iexact HO
    iexact Hd1
  iintro ⟨Hs1, Hkit, HO, Hd1⟩
  iapply Hk
  unfold xkit
  isplitl [HxL HxR Hs0 Hs1 Hv0 Hv1]
  · isplitl [HxL]; · iexact HxL
    isplitl [HxR]; · iexact HxR
    isplitl [Hs0]; · iapply (holds_free c (xslot 0)) $$ Hs0
    isplitl [Hs1]; · iapply (holds_free c (xslot 1)) $$ Hs1
    isplitl [Hv0]; · iexact Hv0
    iexact Hv1
  isplitl [Hkit]; · iexact Hkit
  isplitl [HO]; · iexact HO
  isplitl [Hd0]; · iexact Hd0
  iexact Hd1

end Cert.KernelIdeal.Ring

end
-- ==== Proof.Tile.lean ====
/- The combination of a received slot with a product, row tile after row tile: a slot's tile is loaded and
   stored through the doubled buffer's rectangle, while the slot is held as a matrix. -/
module

public import proofs.«01_k».proof.Proof.Frag

@[expose] public section

set_option synthInstance.maxSize 4096

noncomputable section

namespace Cert.KernelIdeal.Ring

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## A rectangle inside a slot -/

section Inside

variable {s s' : Shape} {e : EltTy}

theorem inside_subset (c : Dev nD) (m : Memref sig .tc .vmem s e) (r₀ r : Rect s) (hr₀ : ∀ a, r₀.stride a = 1) (hs : r₀.shape.Squeezes s')
    (g : r.shape.Idx → s'.Idx) (hg : ∀ j, r.emb j = r₀.emb (Shape.reshapeEquiv hs.numel_eq (g j))) :
    (m.access r).set ⊆ ((m.slice r₀ hr₀).squeeze s' hs).view.set := by
  intro x hx
  obtain ⟨j, -, rfl⟩ := Finset.mem_map.mp hx
  have : (m.access r).emb j = ((m.slice r₀ hr₀).squeeze s' hs).view.emb (g j) := by
    show m.view.emb (r.emb j) = m.view.emb (r₀.emb _)
    rw [hg j]
    rfl
  rw [this]
  exact View.emb_mem_set _ _

theorem load_inside (c : Dev nD) (m : Memref sig .tc .vmem s e) (r₀ r : Rect s) (hr₀ : ∀ a, r₀.stride a = 1) (hs : r₀.shape.Squeezes s')
    (g : r.shape.Idx → s'.Idx) (hg : ∀ j, r.emb j = r₀.emb (Shape.reshapeEquiv hs.numel_eq (g j)))
    (P : (s'.Idx → Elt F e) → Prop) {hl : m.view.LoadsAt r.toLoadRect}
    {α : Type} (k : (r.shape.Idx → Elt F e) → TP F α) (Q : α → sProp (MM F)) :
    holds c ((m.slice r₀ hr₀).squeeze s' hs) P
      ⊢ iprop((∀ V, ⌜P V⌝ -∗ hold c ((m.slice r₀ hr₀).squeeze s' hs) V -∗ go c (k (fun j => V (g j))) Q)
          -∗ go c (.op (.load m r.toLoadRect hl) k) Q) := by
  iintro H Hk
  unfold holds pts
  icases H with ⟨%f, %hf, H⟩
  iapply (wp_load_rect 𝒱₀ (c : Thread nD τ) none Set.univ (m := m) (r := r) (hl := hl) (S := ((m.slice r₀ hr₀).squeeze s' hs).view.set) (f := f)
    (inside_subset c m r₀ r hr₀ hs g hg)) $$ [H]
  · iexact H
  iintro H
  have hread : (m.access r).read (Elt F) f = fun j => ((m.slice r₀ hr₀).squeeze s' hs).view.read (Elt F) f (g j) := by
    funext j
    show m.view.read (Elt F) f (r.emb j) = m.view.read (Elt F) f (r₀.emb _)
    rw [hg j]
    rfl
  rw [hread]
  iapply Hk $$ %(((m.slice r₀ hr₀).squeeze s' hs).view.read (Elt F) f) %hf
  unfold hold holds pts
  iexists f
  isplitr
  · ipureintro; rfl
  · iexact H

theorem store_inside (c : Dev nD) (m : Memref sig .tc .vmem s e) (r₀ r : Rect s) (hr₀ : ∀ a, r₀.stride a = 1) (hs : r₀.shape.Squeezes s')
    (g : r.shape.Idx → s'.Idx) (hg : ∀ j, r.emb j = r₀.emb (Shape.reshapeEquiv hs.numel_eq (g j)))
    (w : r.shape.Idx → Elt F e) (P P' : (s'.Idx → Elt F e) → Prop)
    (hP : ∀ V V' : s'.Idx → Elt F e, P V → (∀ j, V' (g j) = w j) → (∀ y, (∀ j, y ≠ g j) → V' y = V y) → P' V')
    {hx : (m.access r).Stores Finset.univ} {hm : Finset.univ = Finset.univ ∨ ∀ a, r.stride a = 1}
    {α : Type} (k : PUnit → TP F α) (Q : α → sProp (MM F)) :
    holds c ((m.slice r₀ hr₀).squeeze s' hs) P
      ⊢ iprop((holds c ((m.slice r₀ hr₀).squeeze s' hs) P' -∗ go c (k ⟨⟩) Q)
          -∗ go c (.op (.store m r w Finset.univ hx hm) k) Q) := by
  iintro H Hk
  unfold holds pts
  icases H with ⟨%f, %hf, H⟩
  iapply (wp_store 𝒱₀ (c : Thread nD τ) none Set.univ (m := m) (r := r) (w := w) (hx := hx) (hm := hm) (S := ((m.slice r₀ hr₀).squeeze s' hs).view.set) (f := f)
    (inside_subset c m r₀ r hr₀ hs g hg)) $$ [H]
  · iexact H
  iintro H
  iapply Hk
  iexists _
  isplitr
  rotate_left
  · iexact H
  · ipureintro
    refine hP _ _ hf (fun j => ?_) (fun y hy => ?_)
    · refine Eq.trans ?_ (View.read_slice_write_emb r f w (Finset.mem_univ j))
      show m.view.read (Elt F) _ (r₀.emb _) = m.view.read (Elt F) _ (r.emb j)
      rw [hg j]
      rfl
    · refine View.read_slice_write_of_not_mem r f w _ ?_
      intro hm
      obtain ⟨j, -, hj⟩ := Finset.mem_map.mp hm
      rw [hg j] at hj
      exact hy j ((Shape.reshapeEquiv hs.numel_eq).injective (r₀.emb.injective hj)).symm

end Inside

/-! ## Row tiles of a slot -/

/-- Row `j` of tile `t`, in the slot. -/
def rowIdx (t : Fin 4) (j : S1x128x4096.Idx) : S512x4096.Idx :=
  Shape.pair (d := ![512, 4096]) (⟨t.val * 128 + (j 1).val, by have : (j 1).val < 128 := (j 1).isLt; have := t.isLt; omega⟩ : Fin 512) (j 2)

theorem rowIdx_emb (k : Fin 2) (t : Fin 4) (j : S1x128x4096.Idx) :
    (rowRect3 k t).emb j = (slotRect 512 4096 k).emb (Shape.reshapeEquiv squeezes_S1x512x4096_S512x4096.numel_eq (rowIdx t j)) := by
  have e : Shape.reshapeEquiv squeezes_S1x512x4096_S512x4096.numel_eq (rowIdx t j) = Fin.cons (⟨0, by decide⟩ : Fin 1) (rowIdx t j) :=
    Shape.reshapeEquiv_cons_one _ _
  rw [e]
  have h0 : (j 0).val = 0 := by have : (j 0).val < 1 := (j 0).isLt; omega
  funext a
  apply Fin.ext
  fin_cases a
  · show k.val + 1 * (j 0).val = k.val + 1 * 0
    rw [h0]
  · show t.val * 128 + 1 * (j 1).val = 0 + 1 * (t.val * 128 + (j 1).val)
    omega
  · show 0 + 1 * (j 2).val = 0 + 1 * (j 2).val
    rfl

/-- A tile's rows of a matrix, and of the product's. -/
def rows3 (t : Fin 4) (C : S512x4096.Idx → Elt F .f32) : Vec F S1x128x4096 .f32 := fun j => C (rowIdx t j)
def rows2 (t : Fin 4) (P : S512x4096.Idx → Elt F .f32) : Vec F S128x4096 .f32 := fun j => P ((rowRect t).emb j)

/-- A row's tile, and its place in the tile. -/
def tileOf (i : S512x4096.Idx) : Fin 4 := ⟨(i 0).val / 128, by have : (i 0).val < 512 := (i 0).isLt; omega⟩
def inTile (i : S512x4096.Idx) : S1x128x4096.Idx :=
  Fin.cons (⟨0, by decide⟩ : Fin 1) (Shape.pair (d := ![128, 4096]) (⟨(i 0).val % 128, Nat.mod_lt _ (by decide)⟩ : Fin 128) (i 1))

/-- The combination of two matrices by a function of tiles. -/
def comb (f : Vec F S1x128x4096 .f32 → Vec F S128x4096 .f32 → FVec F S1x128x4096 .f32) (C P : S512x4096.Idx → Elt F .f32) :
    S512x4096.Idx → Elt F .f32 := fun i => f (rows3 (tileOf i) C) (rows2 (tileOf i) P) (inTile i)

theorem rowIdx_val (t : Fin 4) (j : S1x128x4096.Idx) : (rowIdx t j 0).val = t.val * 128 + (j 1).val := rfl

theorem tileOf_rowIdx (t : Fin 4) (j : S1x128x4096.Idx) : tileOf (rowIdx t j) = t := by
  apply Fin.ext
  show (t.val * 128 + (j 1).val) / 128 = t.val
  have : (j 1).val < 128 := (j 1).isLt
  omega

theorem inTile_rowIdx (t : Fin 4) (j : S1x128x4096.Idx) : inTile (rowIdx t j) = j := by
  funext a
  apply Fin.ext
  have h0 : (j 0).val < 1 := (j 0).isLt
  have h1 : (j 1).val < 128 := (j 1).isLt
  fin_cases a
  · show 0 = (j 0).val
    omega
  · show (t.val * 128 + (j 1).val) % 128 = (j 1).val
    omega
  · rfl

theorem rowIdx_inTile (i : S512x4096.Idx) : rowIdx (tileOf i) (inTile i) = i := by
  funext a
  apply Fin.ext
  fin_cases a
  · show (i 0).val / 128 * 128 + (i 0).val % 128 = (i 0).val
    omega
  · rfl

theorem comb_rowIdx (f : Vec F S1x128x4096 .f32 → Vec F S128x4096 .f32 → FVec F S1x128x4096 .f32) (C P : S512x4096.Idx → Elt F .f32)
    (t : Fin 4) (j : S1x128x4096.Idx) : comb f C P (rowIdx t j) = f (rows3 t C) (rows2 t P) j := by
  unfold comb; rw [tileOf_rowIdx, inTile_rowIdx]

/-- The rows of the first `n` tiles from `H`, the others from `C`. -/
def mix (H C : S512x4096.Idx → Elt F .f32) (n : ℕ) : S512x4096.Idx → Elt F .f32 := fun i => if (tileOf i).val < n then H i else C i
/-- The rows of the first `n` tiles are those of `H`. -/
def rowsDone (H : S512x4096.Idx → Elt F .f32) (n : ℕ) (V : S512x4096.Idx → Elt F .f32) : Prop := ∀ i, (tileOf i).val < n → V i = H i

theorem mix_zero (H C : S512x4096.Idx → Elt F .f32) : mix H C 0 = C := funext fun i => if_neg (Nat.not_lt_zero _)
theorem mix_all (H C : S512x4096.Idx → Elt F .f32) : mix H C 4 = H := funext fun i => if_pos (tileOf i).isLt
theorem rows_all (H V : S512x4096.Idx → Elt F .f32) (h : rowsDone H 4 V) : V = H := funext fun i => h i (tileOf i).isLt

variable (f : Vec F S1x128x4096 .f32 → Vec F S128x4096 .f32 → FVec F S1x128x4096 .f32)

/-- A tile combined in place. -/
theorem tile_in (c : Dev nD) (m : Memref sig .tc .vmem S2x512x4096 .f32) (p : Memref sig .tc .vmem S512x4096 .f32) (b : Fin 2) (t : Fin 4)
    (C P : S512x4096.Idx → Elt F .f32) {α : Type} (k : PUnit → TP F α) (Q : α → sProp (MM F)) :
    iprop(hold c (cslot m b) (mix (comb f C P) C t.val) ∗ hold c p P)
      ⊢ iprop((iprop(hold c (cslot m b) (mix (comb f C P) C (t.val + 1)) ∗ hold c p P) -∗ go c (k ⟨⟩) Q)
          -∗ go c (tile f m p b b t >>= k) Q) := by
  iintro ⟨Hm, Hp⟩ Hk
  unfold tile
  simp only [bind_assoc, Prog.bind_lift]
  iapply (load_inside c m (slotRect 512 4096 b) (rowRect3 b t) (fun _ => rfl) squeezes_S1x512x4096_S512x4096 (rowIdx t) (rowIdx_emb b t) _) $$ [Hm]
  · iexact Hm
  iintro %V %hV Hm
  iapply (load_rect c p (rowRect t) _) $$ [Hp]
  · iexact Hp
  iintro %W %hW Hp
  iapply (load_inside c m (slotRect 512 4096 b) (rowRect3 b t) (fun _ => rfl) squeezes_S1x512x4096_S512x4096 (rowIdx t) (rowIdx_emb b t) _) $$ [Hm]
  · iexact Hm
  iintro %V₁ %hV₁ Hm
  iapply (store_inside c m (slotRect 512 4096 b) (rowRect3 b t) (fun _ => rfl) squeezes_S1x512x4096_S512x4096 (rowIdx t) (rowIdx_emb b t) _
    (fun U => U = V₁) (fun U => U = mix (comb f C P) C (t.val + 1)) (fun U U' hU h1 h2 => by
      funext i
      by_cases hi : tileOf i = t
      · have hi' : i = rowIdx t (inTile i) := by rw [← hi, rowIdx_inTile]
        rw [hi', h1, ← hi']
        unfold mix
        rw [hi, if_pos (Nat.lt_succ_self _)]
        unfold comb
        rw [hi]
        congr 1
        congr 1
        · funext j
          rw [hV]
          unfold mix rows3
          rw [tileOf_rowIdx, if_neg (Nat.lt_irrefl _)]
        · rw [hW]; rfl
      · rw [h2 i (fun j hj => hi (by rw [hj, tileOf_rowIdx])), hU, hV₁, hV]
        unfold mix
        have hne : (tileOf i).val ≠ t.val := fun h => hi (Fin.ext h)
        by_cases hlt : (tileOf i).val < t.val
        · rw [if_pos hlt, if_pos (by omega)]
        · rw [if_neg hlt, if_neg (by omega)])) $$ [Hm]
  · iexact Hm
  iintro Hm
  iapply Hk
  isplitl [Hm]; · iexact Hm
  subst hW
  iexact Hp

/-- A tile combined into the other slot. -/
theorem tile_out (c : Dev nD) (m : Memref sig .tc .vmem S2x512x4096 .f32) (p : Memref sig .tc .vmem S512x4096 .f32) (a b : Fin 2) (t : Fin 4)
    (C P : S512x4096.Idx → Elt F .f32) {α : Type} (k : PUnit → TP F α) (Q : α → sProp (MM F)) :
    iprop(hold c (cslot m a) C ∗ hold c p P ∗ holds c (cslot m b) (rowsDone (comb f C P) t.val))
      ⊢ iprop((iprop(hold c (cslot m a) C ∗ hold c p P ∗ holds c (cslot m b) (rowsDone (comb f C P) (t.val + 1))) -∗ go c (k ⟨⟩) Q)
          -∗ go c (tile f m p a b t >>= k) Q) := by
  iintro ⟨Ha, Hp, Hm⟩ Hk
  unfold tile
  simp only [bind_assoc, Prog.bind_lift]
  iapply (load_inside c m (slotRect 512 4096 a) (rowRect3 a t) (fun _ => rfl) squeezes_S1x512x4096_S512x4096 (rowIdx t) (rowIdx_emb a t) _) $$ [Ha]
  · iexact Ha
  iintro %V %hV Ha
  iapply (load_rect c p (rowRect t) _) $$ [Hp]
  · iexact Hp
  iintro %W %hW Hp
  iapply (load_inside c m (slotRect 512 4096 b) (rowRect3 b t) (fun _ => rfl) squeezes_S1x512x4096_S512x4096 (rowIdx t) (rowIdx_emb b t) _) $$ [Hm]
  · iexact Hm
  iintro %V₁ %hV₁ Hm
  iapply (store_inside c m (slotRect 512 4096 b) (rowRect3 b t) (fun _ => rfl) squeezes_S1x512x4096_S512x4096 (rowIdx t) (rowIdx_emb b t) _
    (fun U => U = V₁) (rowsDone (comb f C P) (t.val + 1)) (fun U U' hU h1 h2 i hlt => by
      by_cases hi : tileOf i = t
      · have hi' : i = rowIdx t (inTile i) := by rw [← hi, rowIdx_inTile]
        rw [hi', h1, ← hi']
        unfold comb
        rw [hi, hV, hW]
        rfl
      · rw [h2 i (fun j hj => hi (by rw [hj, tileOf_rowIdx])), hU]
        have hne : (tileOf i).val ≠ t.val := fun h => hi (Fin.ext h)
        exact hV₁ i (by omega))) $$ [Hm]
  · iexact Hm
  iintro Hm
  iapply Hk
  subst hV hW
  isplitl [Ha]; · iexact Ha
  isplitl [Hp]; · iexact Hp
  iexact Hm

/-- Every tile of both directions, in place. -/
theorem tiles_in (c : Dev nD) (b : Fin 2) (C C' P P' : S512x4096.Idx → Elt F .f32) {α : Type} (k : PUnit → TP F α) (Q : α → sProp (MM F)) :
    iprop(hold c (cslot (comm false) b) C ∗ hold c (part false) P ∗ hold c (cslot (comm true) b) C' ∗ hold c (part true) P')
      ⊢ iprop((iprop(hold c (cslot (comm false) b) (comb f C P) ∗ hold c (part false) P ∗ hold c (cslot (comm true) b) (comb f C' P') ∗ hold c (part true) P')
            -∗ go c (k ⟨⟩) Q)
          -∗ go c (tiles f b b >>= k) Q) := by
  iintro ⟨Hm, Hp, Hm', Hp'⟩ Hk
  unfold tiles
  simp only [bind_assoc]
  ihave Hm := (holds_mono c (cslot (comm false) b) (P' := fun V => V = mix (comb f C P) C 0) (fun V hV => by rw [hV, mix_zero])) $$ Hm
  ihave Hm' := (holds_mono c (cslot (comm true) b) (P' := fun V => V = mix (comb f C' P') C' 0) (fun V hV => by rw [hV, mix_zero])) $$ Hm'
  iapply (tile_in f c (comm false) (part false) b 0 C P) $$ [Hm Hp]
  · isplitl [Hm]; · iexact Hm
    iexact Hp
  iintro ⟨Hm, Hp⟩
  iapply (tile_in f c (comm true) (part true) b 0 C' P') $$ [Hm' Hp']
  · isplitl [Hm']; · iexact Hm'
    iexact Hp'
  iintro ⟨Hm', Hp'⟩
  iapply (tile_in f c (comm false) (part false) b 1 C P) $$ [Hm Hp]
  · isplitl [Hm]; · iexact Hm
    iexact Hp
  iintro ⟨Hm, Hp⟩
  iapply (tile_in f c (comm true) (part true) b 1 C' P') $$ [Hm' Hp']
  · isplitl [Hm']; · iexact Hm'
    iexact Hp'
  iintro ⟨Hm', Hp'⟩
  iapply (tile_in f c (comm false) (part false) b 2 C P) $$ [Hm Hp]
  · isplitl [Hm]; · iexact Hm
    iexact Hp
  iintro ⟨Hm, Hp⟩
  iapply (tile_in f c (comm true) (part true) b 2 C' P') $$ [Hm' Hp']
  · isplitl [Hm']; · iexact Hm'
    iexact Hp'
  iintro ⟨Hm', Hp'⟩
  iapply (tile_in f c (comm false) (part false) b 3 C P) $$ [Hm Hp]
  · isplitl [Hm]; · iexact Hm
    iexact Hp
  iintro ⟨Hm, Hp⟩
  iapply (tile_in f c (comm true) (part true) b 3 C' P') $$ [Hm' Hp']
  · isplitl [Hm']; · iexact Hm'
    iexact Hp'
  iintro ⟨Hm', Hp'⟩
  iapply Hk
  isplitl [Hm]
  · iapply (holds_mono c (cslot (comm false) b) (fun V hV => (hV.trans (mix_all _ _) : V = comb f C P))) $$ Hm
  isplitl [Hp]; · iexact Hp
  isplitl [Hm']
  · iapply (holds_mono c (cslot (comm true) b) (fun V hV => (hV.trans (mix_all _ _) : V = comb f C' P'))) $$ Hm'
  iexact Hp'

/-- Every tile of both directions, into the other slot. -/
theorem tiles_out (c : Dev nD) (a b : Fin 2) (C C' P P' : S512x4096.Idx → Elt F .f32) {α : Type} (k : PUnit → TP F α) (Q : α → sProp (MM F)) :
    iprop((hold c (cslot (comm false) a) C ∗ hold c (part false) P ∗ free c (cslot (comm false) b))
        ∗ (hold c (cslot (comm true) a) C' ∗ hold c (part true) P' ∗ free c (cslot (comm true) b)))
      ⊢ iprop((iprop((hold c (cslot (comm false) a) C ∗ hold c (part false) P ∗ hold c (cslot (comm false) b) (comb f C P))
            ∗ (hold c (cslot (comm true) a) C' ∗ hold c (part true) P' ∗ hold c (cslot (comm true) b) (comb f C' P'))) -∗ go c (k ⟨⟩) Q)
          -∗ go c (tiles f a b >>= k) Q) := by
  iintro ⟨⟨Ha, Hp, Hb⟩, Ha', Hp', Hb'⟩ Hk
  unfold tiles
  simp only [bind_assoc]
  ihave Hb := (holds_mono c (cslot (comm false) b) (P' := rowsDone (comb f C P) 0) (fun V _ i hi => absurd hi (Nat.not_lt_zero _))) $$ Hb
  ihave Hb' := (holds_mono c (cslot (comm true) b) (P' := rowsDone (comb f C' P') 0) (fun V _ i hi => absurd hi (Nat.not_lt_zero _))) $$ Hb'
  iapply (tile_out f c (comm false) (part false) a b 0 C P) $$ [Ha Hp Hb]
  · isplitl [Ha]; · iexact Ha
    isplitl [Hp]; · iexact Hp
    iexact Hb
  iintro H
  iapply (tile_out f c (comm true) (part true) a b 0 C' P') $$ [Ha' Hp' Hb']
  · isplitl [Ha']; · iexact Ha'
    isplitl [Hp']; · iexact Hp'
    iexact Hb'
  iintro H'
  iapply (tile_out f c (comm false) (part false) a b 1 C P) $$ [H]
  · iexact H
  iintro H
  iapply (tile_out f c (comm true) (part true) a b 1 C' P') $$ [H']
  · iexact H'
  iintro H'
  iapply (tile_out f c (comm false) (part false) a b 2 C P) $$ [H]
  · iexact H
  iintro H
  iapply (tile_out f c (comm true) (part true) a b 2 C' P') $$ [H']
  · iexact H'
  iintro H'
  iapply (tile_out f c (comm false) (part false) a b 3 C P) $$ [H]
  · iexact H
  iintro ⟨Ha, Hp, Hb⟩
  iapply (tile_out f c (comm true) (part true) a b 3 C' P') $$ [H']
  · iexact H'
  iintro ⟨Ha', Hp', Hb'⟩
  iapply Hk
  isplitl [Ha Hp Hb]
  · isplitl [Ha]; · iexact Ha
    isplitl [Hp]; · iexact Hp
    iapply (holds_mono c (cslot (comm false) b) (P := rowsDone (comb f C P) ((3 : Fin 4).val + 1)) (fun V hV => rows_all _ V hV)) $$ Hb
  · isplitl [Ha']; · iexact Ha'
    isplitl [Hp']; · iexact Hp'
    iapply (holds_mono c (cslot (comm true) b) (P := rowsDone (comb f C' P') ((3 : Fin 4).val + 1)) (fun V hV => rows_all _ V hV)) $$ Hb'

end Cert.KernelIdeal.Ring

end
-- ==== Proof.Sched.lean ====
/- The protocol of the ring's semaphores, in rounds: who raises which cell in which round, and what it hands over.

   Per direction `d`, step `s` sends slot `s % 2` into slot `(s + 1) % 2` of the neighbour `down d`. The arrival's
   cell of that slot hands the receiver the sums sent, and that the sender has counted `s` credits so far; the
   send's cell hands the sender its slot back. A device gives the neighbour it receives from one credit per step
   but the last: the slot it has just sent from, to write in. At the barrier every device hands both neighbours
   the slots 1 of the two directions they send to it in. -/
module

public import proofs.«01_k».proof.Proof.Tile

@[expose] public section

set_option synthInstance.maxSize 4096

noncomputable section

namespace Cert.KernelIdeal.Ring

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Neighbours -/

theorem nxt_eq (c : Dev nD) : nxt c = ⟨(c.val + 1) % 8, Nat.mod_lt _ (by decide)⟩ := Fin.ext (k0_dev3_eq c)
theorem prv_eq (c : Dev nD) : prv c = ⟨(c.val + 7) % 8, Nat.mod_lt _ (by decide)⟩ := Fin.ext (k0_dev4_eq c)
theorem nxt_prv (c : Dev nD) : nxt (prv c) = c := by
  rw [nxt_eq, prv_eq]; apply Fin.ext; show ((c.val + 7) % 8 + 1) % 8 = c.val; have : c.val < 8 := c.isLt; omega
theorem prv_nxt (c : Dev nD) : prv (nxt c) = c := by
  rw [prv_eq, nxt_eq]; apply Fin.ext; show ((c.val + 1) % 8 + 7) % 8 = c.val; have : c.val < 8 := c.isLt; omega
theorem up_down (d : Bool) (c : Dev nD) : up d (down d c) = c := by cases d; exacts [prv_nxt c, nxt_prv c]
theorem down_up (d : Bool) (c : Dev nD) : down d (up d c) = c := by cases d; exacts [nxt_prv c, prv_nxt c]

/-! ## The sums -/

variable (m : (ℓ : Loc nD τ sig) → Buf (Elt F) ℓ)

/-- A device's operands. -/
abbrev argX (c : Dev nD) : Buf (Elt F) (mX.view.loc (c : Thread nD τ)) := m (mX.view.loc (c : Thread nD τ))
abbrev argW (c : Dev nD) : Buf (Elt F) (mW.view.loc (c : Thread nD τ)) := m (mW.view.loc (c : Thread nD τ))

/-- A device's first product of a direction. -/
def part0 : Bool → Dev nD → S512x4096.Idx → Elt F .f32
  | false, c => halfOf c (chunk c (k0_off1 c) (k0_off1_inb c) (argX m c)) (argW m c) 0 (by omega)
  | true, c => halfOf c (chunk c (k0_off2 c) (k0_off2_inb c) (argX m c)) (argW m c) 4096 (by omega)

/-- Its product of step `s`. -/
def partS : Bool → Dev nD → Fin 7 → S512x4096.Idx → Elt F .f32
  | false, c, s => halfOf c (chunk c (offA c s) (k0_off3_inb c s) (argX m c)) (argW m c) 0 (by omega)
  | true, c, s => halfOf c (chunk c (offB c s) (k0_off4_inb c s) (argX m c)) (argW m c) 4096 (by omega)

/-- The sums device `c` sends at step `s`. -/
def A (d : Bool) : ℕ → Dev nD → S512x4096.Idx → Elt F .f32
  | 0, c => part0 m d c
  | s + 1, c => comb tileAdd (A d s (up d c)) (partS m d c (Fin.ofNat 7 s))

/-- The half of the result a direction yields. -/
def final (d : Bool) (c : Dev nD) : S512x4096.Idx → Elt F .f32 := comb tileSilu (A m d 6 (up d c)) (partS m d c 6)

/-! ## Rounds -/

abbrev ER : Emb UB (MM F) :=
  ((Emb.inl : Emb UB (UB × Counters)).trans (Emb.inr : Emb (UB × Counters) UU)).trans
    (uEmb (nD := nD) (τ := τ) (sig := sig) (Ix := ℕ) (Val := Elt F) (Name := ℕ) (U := UU) (Lvl := ℕ)).toEmb

/-- The step whose arrival is round `r` of slot `k`'s cell. -/
def stepOf (k : Fin 2) (r : ℕ) : ℕ := 2 * r + (1 - k.val)
theorem stepOf_slotB (s : ℕ) : stepOf (slotB s) (s / 2) = s := by
  show 2 * (s / 2) + (1 - (s + 1) % 2) = s
  omega

def dut : Kd → ℕ → Finset Bool
  | .bar, r => if r = 0 then Finset.univ else ∅
  | .credit _, r => if r < 6 then {false} else ∅
  | .send _ k, r => if 2 * r + k.val < 7 then {false} else ∅
  | .recv _ k, r => if stepOf k r < 7 then {false} else ∅
  | .loc, _ => ∅

def amt : Kd → ℕ
  | .bar => 1
  | .credit _ => 1
  | .send d _ => N d
  | .recv d _ => N d
  | .loc => 1

def pay : Kd → Dev nD → ℕ → Bool → sProp (MM F)
  | .bar, c, _, d => iprop(free (down d c) (cslot (comm d) 1) ∗ reached ER (recvCell d 1 (down d c)) 0)
  | .credit d, c, r, _ => iprop(free (down d c) (cslot (comm d) (slotA r)) ∗ reached ER (recvCell d (slotA r) (down d c)) ((r + 1) / 2))
  | .send d k, c, _, _ => free c (cslot (comm d) k)
  | .recv d k, c, r, _ => iprop(hold c (cslot (comm d) k) (A m d (stepOf k r) (up d c)) ∗ reached ER (crCell d (up d c)) (stepOf k r))
  | .loc, _, _, _ => iprop(emp)

instance pay_storable (k : Kd) (c : Dev nD) (r : ℕ) (d : Bool) : BI.Storable (upEmb : UEmb _ (MM F)) (pay m k c r d) := by
  cases k <;> (unfold pay; infer_instance)

def Rd : Rounds.Schedule (GSem nD τ sig) Bool (MM F) where
  duties g r := if g.1.2 = .tc then dut (kindOf g.2) r else ∅
  unitless _ := False
  amount g _ _ := amt (kindOf g.2)
  payload g r d := pay m (kindOf g.2) g.1.1 r d
  amount_pos g _ _ _ := by
    show 0 < amt (kindOf g.2)
    unfold amt; split
    · exact Nat.one_pos
    · exact Nat.one_pos
    · exact N_pos _
    · exact N_pos _
    · exact Nat.one_pos

instance Rd_storable (g : GSem nD τ sig) (r : ℕ) (d : Bool) : BI.Storable (upEmb : UEmb _ (MM F)) ((Rd m).payload g r d) := pay_storable m _ _ _ _

section Facts

variable (c : Dev nD) (sm : SemLoc sig) (r : ℕ)

theorem duties_eq : (Rd m).duties ((c : Thread nD τ), sm) r = dut (kindOf sm) r := by dsimp only [Rd]; exact if_pos rfl

/-- A cell of one duty in a round: what its wait yields. -/
theorem rest_one (h : dut (kindOf sm) r = {false}) :
    bigSep ((Rd m).duties ((c : Thread nD τ), sm) r \ ∅) (fun d => (Rd m).payload ((c : Thread nD τ), sm) r d) = pay m (kindOf sm) c r false := by
  rw [Finset.sdiff_empty, duties_eq, h, bigSep_singleton]; rfl
theorem expect_one (h : dut (kindOf sm) r = {false}) : (Rd m).expect ((c : Thread nD τ), sm) r = amt (kindOf sm) := by
  unfold Schedule.expect Schedule.amountOf; rw [duties_eq, h, Finset.sum_singleton]; rfl
theorem expect_bar : (Rd m).expect (barCell c) 0 = 2 := by
  unfold Schedule.expect Schedule.amountOf; rw [duties_eq, kind_bar]; rfl
theorem rest_bar : bigSep ((Rd m).duties (barCell c) 0 \ ∅) (fun d => (Rd m).payload (barCell c) 0 d) = iprop(pay m .bar c 0 false ∗ pay m .bar c 0 true) := by
  rw [Finset.sdiff_empty, duties_eq, kind_bar]
  show bigSep Finset.univ _ = _
  rw [bigSep_univ_eq_bigSepL [false, true] (by decide) (by decide), bigSepL_cons_cons, bigSepL_singleton]
  rfl

theorem dut_send (d : Bool) (s : ℕ) (hs : s < 7) : dut (kindOf (.dma (ssem d (slotA s)))) (s / 2) = {false} := by
  rw [kind_send]; exact if_pos (show 2 * (s / 2) + s % 2 < 7 by omega)
theorem dut_recv (d : Bool) (s : ℕ) (hs : s < 7) : dut (kindOf (.dma (rsem d (slotB s)))) (s / 2) = {false} := by
  rw [kind_recv]; exact if_pos (by rw [stepOf_slotB]; exact hs)
theorem dut_credit (d : Bool) (s : ℕ) (hs : s < 6) : dut (kindOf (.reg (csem d))) s = {false} := by
  rw [kind_credit]; exact if_pos hs

theorem pay_recv (d : Bool) (s : ℕ) (d' : Bool) :
    pay m (kindOf (.dma (rsem d (slotB s)))) c (s / 2) d'
      = iprop(hold c (cslot (comm d) (slotB s)) (A m d s (up d c)) ∗ reached ER (crCell d (up d c)) s) := by
  rw [kind_recv]; unfold pay; simp only [stepOf_slotB]
theorem pay_send (d : Bool) (k : Fin 2) (d' : Bool) : pay m (kindOf (.dma (ssem d k))) c r d' = free c (cslot (comm d) k) := by
  rw [kind_send]; rfl
theorem pay_credit (d : Bool) (d' : Bool) :
    pay m (kindOf (.reg (csem d))) c r d'
      = iprop(free (down d c) (cslot (comm d) (slotA r)) ∗ reached ER (recvCell d (slotA r) (down d c)) ((r + 1) / 2)) := by
  rw [kind_credit]; rfl

end Facts

end Cert.KernelIdeal.Ring

end
-- ==== Proof.Ops.lean ====
/- The ring's operations run under the protocol: a send, the two waits of a transfer, a credit given and a
   credit waited for, and the meeting at the barrier. -/
module

public import proofs.«01_k».proof.Proof.Sched

@[expose] public section

set_option synthInstance.maxSize 4096

noncomputable section

namespace Cert.KernelIdeal.Ring

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

/-! ## The cells' invariants -/

/-- The cells of a device: the barrier's, the credits', the sends', the arrivals'. -/
def csemK : Fin 11 → SemLoc sig
  | 0 => .reg bsem
  | 1 => .reg (csem false)
  | 2 => .reg (csem true)
  | 3 => .dma (ssem false 0)
  | 4 => .dma (ssem false 1)
  | 5 => .dma (ssem true 0)
  | 6 => .dma (ssem true 1)
  | 7 => .dma (rsem false 0)
  | 8 => .dma (rsem false 1)
  | 9 => .dma (rsem true 0)
  | 10 => .dma (rsem true 1)

abbrev kcell (ck : Dev nD × Fin 11) : GSem nD τ sig := ((ck.1 : Thread nD τ), csemK ck.2)

/-- Every cell's invariant, at some names. -/
def recs : sProp (MM F) := iprop(∃ K : Dev nD × Fin 11 → ℕ, bigSep Finset.univ fun ck => cellInv ER (Rd m) (K ck) (kcell ck))

instance recs_persistent : BI.Persistent (recs m) := by unfold recs; infer_instance

theorem inv_at (ck : Dev nD × Fin 11) : recs m ⊢ iprop(∃ κ, cellInv ER (Rd m) κ (kcell ck)) := by
  unfold recs
  iintro ⟨%K, H⟩
  iexists (K ck)
  iapply (show (bigSep Finset.univ (fun ck => cellInv ER (Rd m) (K ck) (kcell ck)) : sProp (MM F)) ⊢ cellInv ER (Rd m) (K ck) (kcell ck) from
    bigSep_elim (Finset.mem_univ ck)) $$ H

theorem inv_bar (c : Dev nD) : recs m ⊢ iprop(∃ κ, cellInv ER (Rd m) κ (barCell c)) := inv_at m (c, 0)
theorem inv_credit (d : Bool) (c : Dev nD) : recs m ⊢ iprop(∃ κ, cellInv ER (Rd m) κ (crCell d c)) := by
  cases d
  · exact inv_at m (c, 1)
  · exact inv_at m (c, 2)
theorem inv_send (d : Bool) (k : Fin 2) (c : Dev nD) : recs m ⊢ iprop(∃ κ, cellInv ER (Rd m) κ (sendCell d k c)) := by
  cases d <;> fin_cases k
  · exact inv_at m (c, 3)
  · exact inv_at m (c, 4)
  · exact inv_at m (c, 5)
  · exact inv_at m (c, 6)
theorem inv_recv (d : Bool) (k : Fin 2) (c : Dev nD) : recs m ⊢ iprop(∃ κ, cellInv ER (Rd m) κ (recvCell d k c)) := by
  cases d <;> fin_cases k
  · exact inv_at m (c, 7)
  · exact inv_at m (c, 8)
  · exact inv_at m (c, 9)
  · exact inv_at m (c, 10)

/-! ## A transfer -/

theorem amount_slot (d : Bool) (k : Fin 2) (sm : DmaSem sig) : (cslot (comm d) k).view.amount (.dma sm) = N d := slot_credit d k

theorem send_run (d : Bool) (c : Dev nD) (s : ℕ) (hs : s < 7) (O : CellTallies nD τ sig ℕ)
    {α : Type} (k : PUnit → TP F α) (Q : α → sProp (MM F)) :
    iprop(recs m ∗ hold c (cslot (comm d) (slotA s)) (A m d s c) ∗ free (down d c) (cslot (comm d) (slotB s)) ∗ reached ER (crCell d c) s
        ∗ owing c (O + tallyAt (recvCell d (slotB s) (down d c)) s (N d))
        ∗ dutyTok ER (sendCell d (slotA s) c) (s / 2) false ∗ reached ER (sendCell d (slotA s) c) (s / 2)
        ∗ dutyTok ER (recvCell d (slotB s) (down d c)) (s / 2) false ∗ reached ER (recvCell d (slotB s) (down d c)) (s / 2))
      ⊢ iprop((iprop(cred (tallyAt (sendCell d (slotA s) c) 0 (N d)) ∗ owing c O) -∗ go c (k ⟨⟩) Q)
          -∗ go c (send d c (slotA s) (slotB s) >>= k) Q) := by
  iintro ⟨#HI, Hs, Hd, #Hc, HO, Ht, #Hr, Ht', #Hr'⟩ Hk
  ihave H1 := (inv_send m d (slotA s) c) $$ HI
  icases H1 with ⟨%κ₁, #H1⟩
  ihave H2 := (inv_recv m d (slotB s) (down d c)) $$ HI
  icases H2 with ⟨%κ₂, #H2⟩
  unfold hold free holds owing
  icases Hs with ⟨%fs, %hfs, Hs⟩
  icases Hd with ⟨%fd, -, Hd⟩
  icases HO with ⟨%W, HO⟩
  unfold send
  simp only [Prog.bind_lift]
  unfold pts
  iapply (Rounds.wp_send_pointsTo_with 𝒱₀ ER (Rd m) (c : Thread nD τ) none (κ₁ := κ₁) (κ₂ := κ₂)
    (r₁ := s / 2) (r₂ := s / 2) (d₁ := false) (d₂ := false) (fs := fs) (fd := fd) (F := reached ER (crCell d c) s) (q := fullShare)
    (by rw [duties_eq, dut_send d s hs]; exact Finset.mem_singleton_self _)
    (by rw [duties_eq, dut_recv d s hs]; exact Finset.mem_singleton_self _)
    s 0 (N d) (amount_slot d (slotB s) _)
    (by show amt (kindOf _) = N d; rw [kind_send]; rfl) (by show amt (kindOf _) = N d; rw [kind_recv]; rfl) O rfl (W := W)
    (by
      show _ ⊢ pay m (kindOf (.dma (ssem d (slotA s)))) c (s / 2) false
      rw [pay_send]
      unfold free holds pts
      iintro H
      iexists fs
      isplitr
      · ipureintro; trivial
      · iexact H)
    (by
      show _ ⊢ pay m (kindOf (.dma (rsem d (slotB s)))) (down d c) (s / 2) false
      rw [pay_recv, up_down]
      unfold hold holds pts
      iintro ⟨H, Hc⟩
      isplitl [H]
      · iexists _
        isplitr
        rotate_left
        · iexact H
        · ipureintro
          rw [View.read_write_univ, hfs]
      · iexact Hc)) $$ [Hs Hd HO Ht Ht']
  · isplitl []; · iexact H1
    isplitl []; · iexact H2
    isplitl [Hs]; · iexact Hs
    isplitl [Hd]
    · isplitl [Hd]; · iexact Hd
      iexact Hc
    isplitl [HO]; · iexact HO
    isplitl [Ht]; · iexact Ht
    isplitl []; · iexact Hr
    isplitl [Ht']; · iexact Ht'
    iexact Hr'
  iintro ⟨Hcr, HO⟩
  iapply Hk
  isplitl [Hcr]; · iexact Hcr
  iexists W
  iexact HO

theorem sendWait_run (d : Bool) (c : Dev nD) (s : ℕ) (hs : s < 7) (O : CellTallies nD τ sig ℕ) (hO : Above 0 O)
    {α : Type} (k : PUnit → TP F α) (Q : α → sProp (MM F)) :
    iprop(recs m ∗ levAts L lv ∗ cred (tallyAt (sendCell d (slotA s) c) 0 (N d)) ∗ owing c O ∗ atPos ER (sendCell d (slotA s) c) (s / 2) ∅ 0)
      ⊢ iprop((iprop(free c (cslot (comm d) (slotA s)) ∗ owing c O ∗ atPos ER (sendCell d (slotA s) c) (s / 2 + 1) ∅ 0
            ∗ reached ER (sendCell d (slotA s) c) (s / 2 + 1)) -∗ go c (k ⟨⟩) Q)
          -∗ go c (sendWait d (slotA s) (slotB s) >>= k) Q) := by
  iintro ⟨#HI, #Hl, Hcr, HO, Hat⟩ Hk
  ihave H1 := (inv_send m d (slotA s) c) $$ HI
  icases H1 with ⟨%κ₁, #H1⟩
  unfold owing
  icases HO with ⟨%W, HO⟩
  unfold sendWait
  simp only [Prog.bind_lift]
  iapply (Rounds.wp_wait_rest_token 𝒱₀ ER (Rd m) (c : Thread nD τ) none (κ := κ₁) (k' := N d)
    (fun K => by rw [wpE_waitDma2_eq, slot_credit]) (Set.mem_univ _)
    0 (O := O) (W := W) (R := s / 2) (m := 0) (T := ∅)
    (by rw [expect_one m c _ _ (dut_send d s hs), kind_send]; exact Nat.zero_add _)) $$ [Hcr HO Hat]
  · isplitl []; · iexact H1
    isplitl [Hcr]; · iexact Hcr
    isplitl [HO]; · iexact HO
    isplitl []
    · iapply (mayWait c (.dma (ssem d (slotA s))) 0 0 (by decide) O (by rw [kind_send]; exact Nat.le_refl _) hO)
      iexact Hl
    iexact Hat
  iintro ⟨HO, Hat, Hr, Hpay⟩
  ihave Hp := (Entails.of_eq ((rest_one m c _ _ (dut_send d s hs)).trans (pay_send m c _ d _ _))) $$ Hpay
  iapply Hk
  isplitl [Hp]; · iexact Hp
  isplitl [HO]; · iexists _; iexact HO
  isplitl [Hat]; · iexact Hat
  iexact Hr

theorem recvWait_run (d : Bool) (c : Dev nD) (s : ℕ) (hs : s < 7) (O : CellTallies nD τ sig ℕ) (hO : Above (2 * s + 2) O)
    {α : Type} (k : PUnit → TP F α) (Q : α → sProp (MM F)) :
    iprop(recs m ∗ levAts L lv ∗ cred (tallyAt (recvCell d (slotB s) c) s (N d)) ∗ owing c O ∗ atPos ER (recvCell d (slotB s) c) (s / 2) ∅ 0)
      ⊢ iprop((iprop((hold c (cslot (comm d) (slotB s)) (A m d s (up d c)) ∗ reached ER (crCell d (up d c)) s) ∗ owing c O
            ∗ atPos ER (recvCell d (slotB s) c) (s / 2 + 1) ∅ 0 ∗ reached ER (recvCell d (slotB s) c) (s / 2 + 1)) -∗ go c (k ⟨⟩) Q)
          -∗ go c (recvWait d (slotA s) (slotB s) >>= k) Q) := by
  iintro ⟨#HI, #Hl, Hcr, HO, Hat⟩ Hk
  ihave H1 := (inv_recv m d (slotB s) c) $$ HI
  icases H1 with ⟨%κ₁, #H1⟩
  unfold owing
  icases HO with ⟨%W, HO⟩
  unfold recvWait
  simp only [Prog.bind_lift]
  iapply (Rounds.wp_wait_rest_token 𝒱₀ ER (Rd m) (c : Thread nD τ) none (κ := κ₁) (k' := N d)
    (fun K => by rw [wpE_waitDma2_eq, slot_credit]) (Set.mem_univ _)
    s (O := O) (W := W) (R := s / 2) (m := 0) (T := ∅)
    (by rw [expect_one m c _ _ (dut_recv d s hs), kind_recv]; exact Nat.zero_add _)) $$ [Hcr HO Hat]
  · isplitl []; · iexact H1
    isplitl [Hcr]; · iexact Hcr
    isplitl [HO]; · iexact HO
    isplitl []
    · iapply (mayWait c (.dma (rsem d (slotB s))) s (2 * s + 2) (by omega) O (by rw [kind_recv]; exact Nat.le_refl _) hO)
      iexact Hl
    iexact Hat
  iintro ⟨HO, Hat, Hr, Hpay⟩
  ihave Hp := (Entails.of_eq ((rest_one m c _ _ (dut_recv d s hs)).trans (pay_recv m c d s _))) $$ Hpay
  iapply Hk
  isplitl [Hp]; · iexact Hp
  isplitl [HO]; · iexists _; iexact HO
  isplitl [Hat]; · iexact Hat
  iexact Hr

/-! ## Credits -/

theorem credit_run (d : Bool) (c : Dev nD) (s : ℕ) (hs : s < 6) (O : CellTallies nD τ sig ℕ)
    {α : Type} (k : PUnit → TP F α) (Q : α → sProp (MM F)) :
    iprop(recs m ∗ free c (cslot (comm d) (slotA s)) ∗ reached ER (recvCell d (slotA s) c) ((s + 1) / 2)
        ∗ owing c (O + tallyAt (crCell d (up d c)) s 1)
        ∗ dutyTok ER (crCell d (up d c)) s false ∗ reached ER (crCell d (up d c)) s)
      ⊢ iprop((owing c O -∗ go c (k ⟨⟩) Q)
          -∗ go c (semSignalWord (up d c) (csem d) 1#32 >>= k) Q) := by
  iintro ⟨#HI, Hf, #Hr, HO, Ht, #Hr'⟩ Hk
  ihave H1 := (inv_credit m d (up d c)) $$ HI
  icases H1 with ⟨%κ₁, #H1⟩
  unfold owing
  icases HO with ⟨%W, HO⟩
  simp only [semSignalWord, Prog.bind_lift]
  iapply (Rounds.wp_signal 𝒱₀ ER (Rd m) (c : Thread nD τ) none (dst := (up d c : Thread nD τ)) (κ := κ₁) (r := s) (d := false)
    (by rw [duties_eq, dut_credit d s hs]; exact Finset.mem_singleton_self _)
    (by show amt (kindOf _) = _; rw [kind_credit]; rfl) s O rfl (W := W)) $$ [Hf HO Ht]
  · isplitl []; · iexact H1
    isplitl [HO]; · iexact HO
    isplitl [Ht]; · iexact Ht
    isplitl [Hf]
    · iapply (Entails.of_eq (show iprop(free c (cslot (comm d) (slotA s)) ∗ reached ER (recvCell d (slotA s) c) ((s + 1) / 2))
          = (Rd m).payload (crCell d (up d c)) s false from by
        show _ = pay m (kindOf (.reg (csem d))) (up d c) s false
        rw [pay_credit, down_up]))
      isplitl [Hf]; · iexact Hf
      iexact Hr
    iexact Hr'
  iintro HO
  iapply Hk
  iexists W
  iexact HO

theorem creditWait_run (d : Bool) (c : Dev nD) (s : ℕ) (hs : s < 6) (O : CellTallies nD τ sig ℕ) (hO : Above (2 * s + 3) O)
    {α : Type} (k : PUnit → TP F α) (Q : α → sProp (MM F)) :
    iprop(recs m ∗ levAts L lv ∗ cred (tallyAt (crCell d c) s 1) ∗ owing c O ∗ atPos ER (crCell d c) s ∅ 0)
      ⊢ iprop((iprop((free (down d c) (cslot (comm d) (slotA s)) ∗ reached ER (recvCell d (slotA s) (down d c)) ((s + 1) / 2)) ∗ owing c O
            ∗ atPos ER (crCell d c) (s + 1) ∅ 0 ∗ reached ER (crCell d c) (s + 1)) -∗ go c (k ⟨⟩) Q)
          -∗ go c (semWaitWord (csem d) 1#32 >>= k) Q) := by
  iintro ⟨#HI, #Hl, Hcr, HO, Hat⟩ Hk
  ihave H1 := (inv_credit m d c) $$ HI
  icases H1 with ⟨%κ₁, #H1⟩
  unfold owing
  icases HO with ⟨%W, HO⟩
  simp only [semWaitWord, Prog.bind_lift]
  iapply (Rounds.wp_wait_rest_token 𝒱₀ ER (Rd m) (c : Thread nD τ) none (κ := κ₁) (wpE_semWait_eq 𝒱₀ (c : Thread nD τ) none Set.univ) (Set.mem_univ _)
    s (O := O) (W := W) (R := s) (m := 0) (T := ∅)
    (by rw [expect_one m c _ _ (dut_credit d s hs), kind_credit]; rfl)) $$ [Hcr HO Hat]
  · isplitl []; · iexact H1
    isplitl [Hcr]; · iexact Hcr
    isplitl [HO]; · iexact HO
    isplitl []
    · iapply (mayWait c (.reg (csem d)) s (2 * s + 3) (by omega) O (by rw [kind_credit]; exact Nat.le_refl _) hO)
      iexact Hl
    iexact Hat
  iintro ⟨HO, Hat, Hr, Hpay⟩
  ihave Hp := (Entails.of_eq ((rest_one m c _ _ (dut_credit d s hs)).trans (pay_credit m c _ d _))) $$ Hpay
  iapply Hk
  isplitl [Hp]; · iexact Hp
  isplitl [HO]; · iexists _; iexact HO
  isplitl [Hat]; · iexact Hat
  iexact Hr

/-! ## The barrier -/

/-- Raise the barrier of the neighbour direction `d` receives from. -/
theorem arrive_run (d : Bool) (c : Dev nD) (O : CellTallies nD τ sig ℕ) {α : Type} (k : PUnit → TP F α) (Q : α → sProp (MM F)) :
    iprop(recs m ∗ free c (cslot (comm d) 1) ∗ reached ER (recvCell d 1 c) 0
        ∗ owing c (O + tallyAt (barCell (up d c)) 0 1)
        ∗ dutyTok ER (barCell (up d c)) 0 d ∗ reached ER (barCell (up d c)) 0)
      ⊢ iprop((owing c O -∗ go c (k ⟨⟩) Q)
          -∗ go c (semSignalWord (up d c) bsem 1#32 >>= k) Q) := by
  iintro ⟨#HI, Hf, #Hr, HO, Ht, #Hr'⟩ Hk
  ihave H1 := (inv_bar m (up d c)) $$ HI
  icases H1 with ⟨%κ₁, #H1⟩
  unfold owing
  icases HO with ⟨%W, HO⟩
  simp only [semSignalWord, Prog.bind_lift]
  iapply (Rounds.wp_signal 𝒱₀ ER (Rd m) (c : Thread nD τ) none (dst := (up d c : Thread nD τ)) (sem := bsem) (κ := κ₁) (r := 0) (d := d)
    (by rw [duties_eq, kind_bar]; exact Finset.mem_univ _)
    (by show amt (kindOf (.reg bsem)) = _; rw [kind_bar]; rfl) 0 O rfl (W := W)) $$ [Hf HO Ht]
  · isplitl []; · iexact H1
    isplitl [HO]; · iexact HO
    isplitl [Ht]; · iexact Ht
    isplitl [Hf]
    · iapply (Entails.of_eq (show iprop(free c (cslot (comm d) 1) ∗ reached ER (recvCell d 1 c) 0)
          = (Rd m).payload (barCell (up d c)) 0 d from by
        show _ = pay m (kindOf (.reg bsem)) (up d c) 0 d
        rw [kind_bar]
        dsimp only [pay]
        rw [down_up]))
      isplitl [Hf]; · iexact Hf
      iexact Hr
    iexact Hr'
  iintro HO
  iapply Hk
  iexists W
  iexact HO

theorem barWait_run (c : Dev nD) (O : CellTallies nD τ sig ℕ) (hO : Above 1 O) {α : Type} (k : PUnit → TP F α) (Q : α → sProp (MM F)) :
    iprop(recs m ∗ levAts L lv ∗ cred (tallyAt (barCell c) 0 2) ∗ owing c O ∗ atPos ER (barCell c) 0 ∅ 0)
      ⊢ iprop((iprop(((free (down false c) (cslot (comm false) 1) ∗ reached ER (recvCell false 1 (down false c)) 0)
              ∗ (free (down true c) (cslot (comm true) 1) ∗ reached ER (recvCell true 1 (down true c)) 0)) ∗ owing c O
            ∗ atPos ER (barCell c) 1 ∅ 0) -∗ go c (k ⟨⟩) Q)
          -∗ go c (semWaitWord bsem 2#32 >>= k) Q) := by
  iintro ⟨#HI, #Hl, Hcr, HO, Hat⟩ Hk
  ihave H1 := (inv_bar m c) $$ HI
  icases H1 with ⟨%κ₁, #H1⟩
  unfold owing
  icases HO with ⟨%W, HO⟩
  simp only [semWaitWord, Prog.bind_lift]
  iapply (Rounds.wp_wait_rest_token 𝒱₀ ER (Rd m) (c : Thread nD τ) none (κ := κ₁) (wpE_semWait_eq 𝒱₀ (c : Thread nD τ) none Set.univ) (Set.mem_univ _)
    0 (O := O) (W := W) (R := 0) (m := 0) (T := ∅)
    (by rw [expect_bar]; rfl)) $$ [Hcr HO Hat]
  · isplitl []; · iexact H1
    isplitl [Hcr]; · iexact Hcr
    isplitl [HO]; · iexact HO
    isplitl []
    · iapply (mayWait c (.reg bsem) 0 1 (by decide) O (by rw [kind_bar]; exact Nat.le_refl _) hO)
      iexact Hl
    iexact Hat
  iintro ⟨HO, Hat, -, Hpay⟩
  ihave Hp := (Entails.of_eq (rest_bar m c)) $$ Hpay
  iapply Hk
  isplitl [Hp]; · unfold pay; iexact Hp
  isplitl [HO]; · iexists _; iexact HO
  iexact Hat

end Cert.KernelIdeal.Ring

end
-- ==== Proof.Step.lean ====
/- One step of the ring at a symbolic step and device: both sends, both products, the waits, the credits given
   and the sums passed on. -/
module

public import proofs.«01_k».proof.Proof.Ops
public import Idealize.SL.BI.BigOpNat

@[expose] public section

set_option synthInstance.maxSize 4096

noncomputable section

namespace Cert.KernelIdeal.Ring

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

/-! ## What a device holds between steps, per direction -/

/-- What step `s` spends on its transfer, -/
def tok (d : Bool) (c : Dev nD) (s : ℕ) : sProp (MM F) :=
  iprop(dutyTok ER (sendCell d (slotA s) c) (s / 2) false ∗ dutyTok ER (recvCell d (slotB s) (down d c)) (s / 2) false
    ∗ cred (tallyAt (recvCell d (slotB s) c) s (N d)))
/-- and on its credits. -/
def ctok (d : Bool) (c : Dev nD) (s : ℕ) : sProp (MM F) :=
  iprop(dutyTok ER (crCell d (up d c)) s false ∗ cred (tallyAt (crCell d c) s 1))

/-- A cell's owner at a round, which is reached. -/
def at_ (g : GSem nD τ sig) (r : ℕ) : sProp (MM F) := iprop(atPos ER g r ∅ 0 ∗ reached ER g r)

/-- The part of it that step `s`'s transfer leaves alone. -/
def Rest (d : Bool) (c : Dev nD) (s : ℕ) : sProp (MM F) :=
  iprop(at_ (sendCell d (slotB s) c) ((s + 1) / 2) ∗ at_ (recvCell d (slotA s) c) ((s + 1) / 2) ∗ atPos ER (crCell d c) s ∅ 0
    ∗ bigSep (Finset.Ico (s + 1) 7) (tok d c) ∗ bigSep (Finset.Ico s 6) (ctok d c))

/-- Before step `s`'s sums are in place. -/
def Pre (d : Bool) (c : Dev nD) (s : ℕ) : sProp (MM F) :=
  iprop((free (down d c) (cslot (comm d) (slotB s)) ∗ reached ER (recvCell d (slotB s) (down d c)) (s / 2))
    ∗ at_ (sendCell d (slotA s) c) (s / 2) ∗ atPos ER (recvCell d (slotB s) c) (s / 2) ∅ 0 ∗ reached ER (crCell d c) s ∗ tok d c s ∗ Rest d c s)

/-- Sent. -/
def Sent (d : Bool) (c : Dev nD) (s : ℕ) : sProp (MM F) :=
  iprop(cred (tallyAt (sendCell d (slotA s) c) 0 (N d)) ∗ atPos ER (sendCell d (slotA s) c) (s / 2) ∅ 0
    ∗ atPos ER (recvCell d (slotB s) c) (s / 2) ∅ 0 ∗ cred (tallyAt (recvCell d (slotB s) c) s (N d)) ∗ Rest d c s)

/-- Both waits done: the slot sent from is back, the sums of the neighbour are in the other. -/
def Got (d : Bool) (c : Dev nD) (s : ℕ) : sProp (MM F) :=
  iprop(free c (cslot (comm d) (slotA s)) ∗ (hold c (cslot (comm d) (slotB s)) (A m d s (up d c)) ∗ reached ER (crCell d (up d c)) s)
    ∗ at_ (sendCell d (slotA s) c) (s / 2 + 1) ∗ at_ (recvCell d (slotB s) c) (s / 2 + 1) ∗ Rest d c s)

/-- The slot sent from given away for a credit. -/
def Paid (d : Bool) (c : Dev nD) (s : ℕ) : sProp (MM F) :=
  iprop(at_ (sendCell d (slotA s) c) (s / 2 + 1) ∗ at_ (recvCell d (slotB s) c) (s / 2 + 1)
    ∗ at_ (sendCell d (slotB s) c) ((s + 1) / 2) ∗ atPos ER (recvCell d (slotA s) c) ((s + 1) / 2) ∅ 0 ∗ atPos ER (crCell d c) s ∅ 0
    ∗ cred (tallyAt (crCell d c) s 1)
    ∗ bigSep (Finset.Ico (s + 1) 7) (tok d c) ∗ bigSep (Finset.Ico (s + 1) 6) (ctok d c))

/-! ## The phases of a step, per direction -/

theorem d_send (d : Bool) (c : Dev nD) (s : ℕ) (hs : s < 7) (O : CellTallies nD τ sig ℕ) {α : Type} (k : PUnit → TP F α) (Q : α → sProp (MM F)) :
    iprop(recs m ∗ hold c (cslot (comm d) (slotA s)) (A m d s c) ∗ Pre d c s ∗ owing c (O + tallyAt (recvCell d (slotB s) (down d c)) s (N d)))
      ⊢ iprop((iprop(Sent d c s ∗ owing c O) -∗ go c (k ⟨⟩) Q) -∗ go c (send d c (slotA s) (slotB s) >>= k) Q) := by
  unfold Pre tok at_
  iintro ⟨#HI, Hh, ⟨⟨Hf, #Hrf⟩, ⟨HatS, #HrS⟩, HatV, #HrC, ⟨Ht, Ht', HcV⟩, HR⟩, HO⟩ Hk
  iapply (send_run m d c s hs O) $$ [Hh Hf HO Ht Ht']
  · isplitl []; · iexact HI
    isplitl [Hh]; · iexact Hh
    isplitl [Hf]; · iexact Hf
    isplitl []; · iexact HrC
    isplitl [HO]; · iexact HO
    isplitl [Ht]; · iexact Ht
    isplitl []; · iexact HrS
    isplitl [Ht']; · iexact Ht'
    iexact Hrf
  iintro ⟨HcS, HO⟩
  iapply Hk
  unfold Sent
  isplitr [HO]
  · isplitl [HcS]; · iexact HcS
    isplitl [HatS]; · iexact HatS
    isplitl [HatV]; · iexact HatV
    isplitl [HcV]; · iexact HcV
    iexact HR
  · iexact HO

theorem d_wait (d : Bool) (c : Dev nD) (s : ℕ) (hs : s < 7) (O : CellTallies nD τ sig ℕ) (hO : Above (2 * s + 2) O)
    {α : Type} (k : PUnit → TP F α) (Q : α → sProp (MM F)) :
    iprop(recs m ∗ levAts L lv ∗ Sent d c s ∗ owing c O)
      ⊢ iprop((iprop(Got m d c s ∗ owing c O) -∗ go c (k ⟨⟩) Q)
          -∗ go c (sendWait d (slotA s) (slotB s) >>= fun _ => recvWait d (slotA s) (slotB s) >>= k) Q) := by
  unfold Sent
  iintro ⟨#HI, #Hl, ⟨HcS, HatS, HatV, HcV, HR⟩, HO⟩ Hk
  iapply (sendWait_run m d c s hs O (hO.mono (Nat.zero_le _))) $$ [HcS HO HatS]
  · isplitl []; · iexact HI
    isplitl []; · iexact Hl
    isplitl [HcS]; · iexact HcS
    isplitl [HO]; · iexact HO
    iexact HatS
  iintro ⟨Hf, HO, HatS, HrS⟩
  iapply (recvWait_run m d c s hs O hO) $$ [HcV HO HatV]
  · isplitl []; · iexact HI
    isplitl []; · iexact Hl
    isplitl [HcV]; · iexact HcV
    isplitl [HO]; · iexact HO
    iexact HatV
  iintro ⟨Hh, HO, HatV, HrV⟩
  iapply Hk
  unfold Got
  isplitr [HO]
  · isplitl [Hf]; · iexact Hf
    isplitl [Hh]; · iexact Hh
    isplitl [HatS HrS]
    · unfold at_
      isplitl [HatS]; · iexact HatS
      iexact HrS
    isplitl [HatV HrV]
    · unfold at_
      isplitl [HatV]; · iexact HatV
      iexact HrV
    iexact HR
  · iexact HO

theorem d_credit (d : Bool) (c : Dev nD) (s : ℕ) (hs : s < 6) (O : CellTallies nD τ sig ℕ) {α : Type} (k : PUnit → TP F α) (Q : α → sProp (MM F)) :
    iprop(recs m ∗ Got m d c s ∗ owing c (O + tallyAt (crCell d (up d c)) s 1))
      ⊢ iprop((iprop((hold c (cslot (comm d) (slotB s)) (A m d s (up d c)) ∗ Paid d c s) ∗ owing c O) -∗ go c (k ⟨⟩) Q)
          -∗ go c (semSignalWord (up d c) (csem d) 1#32 >>= k) Q) := by
  unfold Got Rest
  rw [bigSep_Ico_succ_bot hs (ctok d c)]
  iintro ⟨#HI, ⟨Hf, ⟨Hh, #HrC⟩, HS, HV, ⟨HS', HV', HatC, HT, Hct, HCT⟩⟩, HO⟩ Hk
  unfold ctok at_
  icases Hct with ⟨Ht, HcC⟩
  icases HV' with ⟨HatV, #HrV⟩
  iapply (credit_run m d c s hs O) $$ [Hf HO Ht]
  · isplitl []; · iexact HI
    isplitl [Hf]; · iexact Hf
    isplitl []; · iexact HrV
    isplitl [HO]; · iexact HO
    isplitl [Ht]; · iexact Ht
    iexact HrC
  iintro HO
  iapply Hk
  unfold Paid at_ ctok
  isplitr [HO]
  · isplitl [Hh]; · iexact Hh
    isplitl [HS]; · iexact HS
    isplitl [HV]; · iexact HV
    isplitl [HS']; · iexact HS'
    isplitl [HatV]; · iexact HatV
    isplitl [HatC]; · iexact HatC
    isplitl [HcC]; · iexact HcC
    isplitl [HT]; · iexact HT
    iexact HCT
  · iexact HO

theorem slotB_succ (s : ℕ) : slotB (s + 1) = slotA s := Fin.ext (show (s + 1 + 1) % 2 = s % 2 by omega)
theorem slotA_succ (s : ℕ) : slotA (s + 1) = slotB s := rfl
theorem half_succ (s : ℕ) : (s + 1 + 1) / 2 = s / 2 + 1 := by omega

theorem d_creditWait (d : Bool) (c : Dev nD) (s : ℕ) (hs : s < 6) (O : CellTallies nD τ sig ℕ) (hO : Above (2 * s + 3) O)
    {α : Type} (k : PUnit → TP F α) (Q : α → sProp (MM F)) :
    iprop(recs m ∗ levAts L lv ∗ Paid d c s ∗ owing c O)
      ⊢ iprop((iprop(Pre d c (s + 1) ∗ owing c O) -∗ go c (k ⟨⟩) Q)
          -∗ go c (semWaitWord (csem d) 1#32 >>= k) Q) := by
  unfold Paid
  rw [bigSep_Ico_succ_bot (show s + 1 < 7 by omega) (tok d c)]
  iintro ⟨#HI, #Hl, ⟨HS, HV, HS', HatV, HatC, HcC, ⟨Ht, HT⟩, HCT⟩, HO⟩ Hk
  iapply (creditWait_run m d c s hs O hO) $$ [HcC HO HatC]
  · isplitl []; · iexact HI
    isplitl []; · iexact Hl
    isplitl [HcC]; · iexact HcC
    isplitl [HO]; · iexact HO
    iexact HatC
  iintro ⟨Hf, HO, HatC, HrC⟩
  iapply Hk
  unfold Pre Rest
  rw [slotB_succ, slotA_succ, half_succ]
  isplitr [HO]
  · isplitl [Hf]; · iexact Hf
    isplitl [HS']; · iexact HS'
    isplitl [HatV]; · iexact HatV
    isplitl [HrC]; · iexact HrC
    isplitl [Ht]; · iexact Ht
    isplitl [HS]; · iexact HS
    isplitl [HV]; · iexact HV
    isplitl [HatC]; · iexact HatC
    isplitl [HT]; · iexact HT
    iexact HCT
  · iexact HO

/-! ## A step -/

/-- The operands and what their copies use. -/
def gear (c : Dev nD) : sProp (MM F) := iprop(xkit c (argX m c) ∗ kit c (argW m c))

theorem products_run (c : Dev nD) (s : Fin 7) (O : CellTallies nD τ sig ℕ) (hO : Above 0 O) {α : Type} (k : PUnit → TP F α) (Q : α → sProp (MM F)) :
    iprop(levAts L lv ∗ gear m c ∗ owing c O ∗ free c (part false) ∗ free c (part true))
      ⊢ iprop((iprop(gear m c ∗ owing c O ∗ hold c (part false) (partS m false c s) ∗ hold c (part true) (partS m true c s)) -∗ go c (k ⟨⟩) Q)
          -∗ go c (products c s >>= k) Q) := by
  unfold gear
  iintro ⟨#Hl, ⟨HX, HW⟩, HO, Hp, Hp'⟩ Hk
  unfold products
  simp only [bind_assoc]
  iapply (x_starts c (offA c s) (offB c s) (k0_off3_inb c s) (k0_off4_inb c s) (argX m c)) $$ HX
  iintro ⟨Hf, Hf'⟩
  iapply (halves_run c (offA c s) (offB c s) (k0_off3_inb c s) (k0_off4_inb c s) (argX m c) (argW m c) (part false) (part true) O hO) $$ [Hf Hf' HW HO Hp Hp']
  · isplitl []; · iexact Hl
    isplitl [Hf]; · iexact Hf
    isplitl [Hf']; · iexact Hf'
    isplitl [HW]; · iexact HW
    isplitl [HO]; · iexact HO
    isplitl [Hp]; · iexact Hp
    iexact Hp'
  iintro ⟨HX, HW, HO, Hp, Hp'⟩
  iapply Hk
  isplitl [HX HW]
  · isplitl [HX]; · iexact HX
    iexact HW
  isplitl [HO]; · iexact HO
  isplitl [Hp]; · iexact Hp
  iexact Hp'

/-- A direction before step `s`. -/
def Dir (d : Bool) (c : Dev nD) (s : ℕ) : sProp (MM F) :=
  iprop(hold c (cslot (comm d) (slotA s)) (A m d s c) ∗ free c (part d) ∗ Pre d c s)

theorem exchange_run (c : Dev nD) (s : ℕ) (hs : s < 7) {α : Type} (k : PUnit → TP F α) (Q : α → sProp (MM F)) :
    iprop(recs m ∗ levAts L lv ∗ Dir m false c s ∗ Dir m true c s ∗ gear m c ∗ owing c (owe c s))
      ⊢ iprop((iprop((Got m false c s ∗ hold c (part false) (partS m false c ⟨s, hs⟩)) ∗ (Got m true c s ∗ hold c (part true) (partS m true c ⟨s, hs⟩))
            ∗ gear m c ∗ owing c (owe c (s + 1) + owedCr c s)) -∗ go c (k ⟨⟩) Q)
          -∗ go c (exchange c ⟨s, hs⟩ (slotA s) (slotB s) >>= k) Q) := by
  have hO : Above (2 * s + 2) (owe c (s + 1) + owedCr c s) := (above_owe c (s + 1) _ (by omega)).add (above_cr c s _ (by omega))
  unfold Dir
  rw [owe_succ c s hs]
  unfold owedRecv
  rw [← add_assoc]
  iintro ⟨#HI, #Hl, ⟨Hh, Hp, HD⟩, ⟨Hh', Hp', HD'⟩, HG, HO⟩ Hk
  unfold exchange
  simp only [bind_assoc]
  iapply (d_send m false c s hs _) $$ [Hh HD HO]
  · isplitl []; · iexact HI
    isplitl [Hh]; · iexact Hh
    isplitl [HD]; · iexact HD
    iexact HO
  iintro ⟨HD, HO⟩
  iapply (d_send m true c s hs _) $$ [Hh' HD' HO]
  · isplitl []; · iexact HI
    isplitl [Hh']; · iexact Hh'
    isplitl [HD']; · iexact HD'
    iexact HO
  iintro ⟨HD', HO⟩
  iapply (products_run m c ⟨s, hs⟩ _ (hO.mono (Nat.zero_le _))) $$ [HG HO Hp Hp']
  · isplitl []; · iexact Hl
    isplitl [HG]; · iexact HG
    isplitl [HO]; · iexact HO
    isplitl [Hp]; · iexact Hp
    iexact Hp'
  iintro ⟨HG, HO, Hp, Hp'⟩
  iapply (d_wait m false c s hs _ hO) $$ [HD HO]
  · isplitl []; · iexact HI
    isplitl []; · iexact Hl
    isplitl [HD]; · iexact HD
    iexact HO
  iintro ⟨HD, HO⟩
  iapply (d_wait m true c s hs _ hO) $$ [HD' HO]
  · isplitl []; · iexact HI
    isplitl []; · iexact Hl
    isplitl [HD']; · iexact HD'
    iexact HO
  iintro ⟨HD', HO⟩
  iapply Hk
  isplitl [HD Hp]
  · isplitl [HD]; · iexact HD
    iexact Hp
  isplitl [HD' Hp']
  · isplitl [HD']; · iexact HD'
    iexact Hp'
  isplitl [HG]; · iexact HG
  iexact HO

theorem A_succ (d : Bool) (c : Dev nD) (s : ℕ) (hs : s < 7) : comb tileAdd (A m d s (up d c)) (partS m d c ⟨s, hs⟩) = A m d (s + 1) c := by
  have e : (Fin.ofNat 7 s : Fin 7) = ⟨s, hs⟩ := Fin.ext (Nat.mod_eq_of_lt hs)
  show _ = comb tileAdd (A m d s (up d c)) (partS m d c (Fin.ofNat 7 s))
  rw [e]

/-- A step that passes the sums on, and the waits for the neighbours' credits after it. -/
theorem step_run (c : Dev nD) (s : ℕ) (hs : s < 6) {α : Type} (k : PUnit → TP F α) (Q : α → sProp (MM F)) :
    iprop(recs m ∗ levAts L lv ∗ Dir m false c s ∗ Dir m true c s ∗ gear m c ∗ owing c (owe c s))
      ⊢ iprop((iprop(Dir m false c (s + 1) ∗ Dir m true c (s + 1) ∗ gear m c ∗ owing c (owe c (s + 1))) -∗ go c (k ⟨⟩) Q)
          -∗ go c (step c ⟨s, by omega⟩ (slotA s) (slotB s) >>= fun _ => creditsWait >>= k) Q) := by
  have hO : Above (2 * s + 3) (owe c (s + 1)) := above_owe c (s + 1) _ (by omega)
  iintro ⟨#HI, #Hl, HD, HD', HG, HO⟩ Hk
  unfold step credits creditsWait
  simp only [bind_assoc]
  iapply (exchange_run m c s _) $$ [HD HD' HG HO]
  · isplitl []; · iexact HI
    isplitl []; · iexact Hl
    isplitl [HD]; · iexact HD
    isplitl [HD']; · iexact HD'
    isplitl [HG]; · iexact HG
    iexact HO
  unfold owedCr
  rw [if_pos hs, ← add_assoc]
  iintro ⟨⟨HD, Hp⟩, ⟨HD', Hp'⟩, HG, HO⟩
  iapply (d_credit m false c s hs _) $$ [HD HO]
  · isplitl []; · iexact HI
    isplitl [HD]; · iexact HD
    iexact HO
  iintro ⟨⟨Hh, HD⟩, HO⟩
  iapply (d_credit m true c s hs _) $$ [HD' HO]
  · isplitl []; · iexact HI
    isplitl [HD']; · iexact HD'
    iexact HO
  iintro ⟨⟨Hh', HD'⟩, HO⟩
  iapply (tiles_in tileAdd c (slotB s) (A m false s (up false c)) (A m true s (up true c)) (partS m false c ⟨s, by omega⟩) (partS m true c ⟨s, by omega⟩)) $$ [Hh Hp Hh' Hp']
  · isplitl [Hh]; · iexact Hh
    isplitl [Hp]; · iexact Hp
    isplitl [Hh']; · iexact Hh'
    iexact Hp'
  rw [A_succ, A_succ]
  iintro ⟨Hh, Hp, Hh', Hp'⟩
  iapply (d_creditWait m false c s hs _ hO) $$ [HD HO]
  · isplitl []; · iexact HI
    isplitl []; · iexact Hl
    isplitl [HD]; · iexact HD
    iexact HO
  iintro ⟨HD, HO⟩
  iapply (d_creditWait m true c s hs _ hO) $$ [HD' HO]
  · isplitl []; · iexact HI
    isplitl []; · iexact Hl
    isplitl [HD']; · iexact HD'
    iexact HO
  iintro ⟨HD', HO⟩
  iapply Hk
  unfold Dir
  rw [slotA_succ]
  isplitl [Hh Hp HD]
  · isplitl [Hh]; · iexact Hh
    isplitl [Hp]; · iapply (holds_free c (part false)) $$ Hp
    iexact HD
  isplitl [Hh' Hp' HD']
  · isplitl [Hh']; · iexact Hh'
    isplitl [Hp']; · iapply (holds_free c (part true)) $$ Hp'
    iexact HD'
  isplitl [HG]; · iexact HG
  iexact HO

end Cert.KernelIdeal.Ring

end
-- ==== Proof.Run.lean ====
/- The whole run of a device: the first products and the meeting, the six steps that pass the sums on, the last
   step, and the result's copies. -/
module

public import proofs.«01_k».proof.Proof.Step

@[expose] public section

set_option synthInstance.maxSize 4096

noncomputable section

namespace Cert.KernelIdeal.Ring

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

/-! ## The beginning -/

/-- A direction's cells at the launch. -/
def cells0 (d : Bool) (c : Dev nD) : sProp (MM F) :=
  iprop(at_ (sendCell d 0 c) 0 ∗ at_ (sendCell d 1 c) 0 ∗ at_ (recvCell d 0 c) 0 ∗ at_ (recvCell d 1 c) 0 ∗ at_ (crCell d c) 0)
/-- A direction's duties and credits. -/
def toks0 (d : Bool) (c : Dev nD) : sProp (MM F) :=
  iprop(bigSep (Finset.Ico 0 7) (tok d c) ∗ bigSep (Finset.Ico 0 6) (ctok d c))
/-- A direction's buffers. -/
def bufs (d : Bool) (c : Dev nD) : sProp (MM F) :=
  iprop(free c (cslot (comm d) 0) ∗ free c (cslot (comm d) 1) ∗ free c (part d))

/-- A direction, its neighbour not yet met, its slot for the arrivals given away. -/
def Wait0 (d : Bool) (c : Dev nD) : sProp (MM F) :=
  iprop((free c (cslot (comm d) 0) ∗ free c (part d)) ∗ cells0 d c ∗ toks0 d c)

theorem d_arrive (d : Bool) (c : Dev nD) (O : CellTallies nD τ sig ℕ) {α : Type} (k : PUnit → TP F α) (Q : α → sProp (MM F)) :
    iprop(recs m ∗ (bufs d c ∗ cells0 d c ∗ toks0 d c) ∗ (dutyTok ER (barCell (up d c)) 0 d ∗ reached ER (barCell (up d c)) 0)
        ∗ owing c (O + tallyAt (barCell (up d c)) 0 1))
      ⊢ iprop((iprop(Wait0 d c ∗ owing c O) -∗ go c (k ⟨⟩) Q) -∗ go c (semSignalWord (up d c) bsem 1#32 >>= k) Q) := by
  unfold bufs cells0 at_
  iintro ⟨#HI, ⟨⟨Hf, Hf', Hp⟩, ⟨H1, H2, H3, ⟨H4, #Hr⟩, H5⟩, HT⟩, ⟨Ht, #Hb⟩, HO⟩ Hk
  iapply (arrive_run m d c O) $$ [Hf' HO Ht]
  · isplitl []; · iexact HI
    isplitl [Hf']; · iexact Hf'
    isplitl []; · iexact Hr
    isplitl [HO]; · iexact HO
    isplitl [Ht]; · iexact Ht
    iexact Hb
  iintro HO
  iapply Hk
  unfold Wait0 cells0 at_
  isplitr [HO]
  · isplitl [Hf Hp]
    · isplitl [Hf]; · iexact Hf
      iexact Hp
    isplitr [HT]
    · isplitl [H1]; · iexact H1
      isplitl [H2]; · iexact H2
      isplitl [H3]; · iexact H3
      isplitl [H4]
      · isplitl [H4]; · iexact H4
        iexact Hr
      iexact H5
    · iexact HT
  · iexact HO

theorem dir_intro (d : Bool) (c : Dev nD) :
    iprop(hold c (cslot (comm d) 0) (part0 m d c) ∗ free c (part d) ∗ cells0 d c ∗ toks0 d c
        ∗ (free (down d c) (cslot (comm d) 1) ∗ reached ER (recvCell d 1 (down d c)) 0)) ⊢ Dir m d c 0 := by
  unfold Dir Pre Rest cells0 toks0
  rw [bigSep_Ico_succ_bot (show 0 < 7 by omega) (tok d c), show slotA 0 = 0 from rfl, show slotB 0 = 1 from rfl,
    show (0 + 1) / 2 = 0 from rfl]
  iintro ⟨Hh, Hp, ⟨H1, H2, H3, H4, H5⟩, ⟨⟨Ht, HT⟩, HC⟩, Hn⟩
  unfold at_
  icases H4 with ⟨H4, -⟩
  icases H5 with ⟨H5, #Hr5⟩
  isplitl [Hh]; · iexact Hh
  isplitl [Hp]; · iexact Hp
  isplitl [Hn]; · iexact Hn
  isplitl [H1]; · iexact H1
  isplitl [H4]; · iexact H4
  isplitl []; · iexact Hr5
  isplitl [Ht]; · iexact Ht
  isplitl [H2]; · iexact H2
  isplitl [H3]; · iexact H3
  isplitl [H5]; · iexact H5
  isplitl [HT]; · iexact HT
  iexact HC

/-- All a device starts from, apart from what it owes. -/
def Ini (c : Dev nD) : sProp (MM F) :=
  iprop((bufs false c ∗ cells0 false c ∗ toks0 false c) ∗ (bufs true c ∗ cells0 true c ∗ toks0 true c)
    ∗ (dutyTok ER (barCell (up false c)) 0 false ∗ reached ER (barCell (up false c)) 0)
    ∗ (dutyTok ER (barCell (up true c)) 0 true ∗ reached ER (barCell (up true c)) 0)
    ∗ cred (tallyAt (barCell c) 0 2) ∗ atPos ER (barCell c) 0 ∅ 0)

/-- What it owes: its sends and its credits, and a unit to each neighbour's barrier. -/
def O₀ (c : Dev nD) : CellTallies nD τ sig ℕ := owe c 0 + tallyAt (barCell (up true c)) 0 1 + tallyAt (barCell (up false c)) 0 1

theorem start_run (c : Dev nD) {α : Type} (k : PUnit → TP F α) (Q : α → sProp (MM F)) :
    iprop(recs m ∗ levAts L lv ∗ Ini c ∗ gear m c ∗ owing c (O₀ c))
      ⊢ iprop((iprop(Dir m false c 0 ∗ Dir m true c 0 ∗ gear m c ∗ owing c (owe c 0) ∗ atPos ER (barCell c) 1 ∅ 0) -∗ go c (k ⟨⟩) Q)
          -∗ go c (start c >>= k) Q) := by
  unfold Ini gear
  iintro ⟨#HI, #Hl, ⟨HA, HB, HTA, HTB, Hcr, Hat⟩, ⟨HX, HW⟩, HO⟩ Hk
  unfold start meet
  simp only [bind_assoc]
  iapply (x_starts c (k0_off1 c) (k0_off2 c) (k0_off1_inb c) (k0_off2_inb c) (argX m c)) $$ HX
  iintro ⟨Hf, Hf'⟩
  iapply (d_arrive m false c (owe c 0 + tallyAt (barCell (up true c)) 0 1)) $$ [HA HTA HO]
  · isplitl []; · iexact HI
    isplitl [HA]; · iexact HA
    isplitl [HTA]; · iexact HTA
    iexact HO
  iintro ⟨HA, HO⟩
  iapply (d_arrive m true c (owe c 0)) $$ [HB HTB HO]
  · isplitl []; · iexact HI
    isplitl [HB]; · iexact HB
    isplitl [HTB]; · iexact HTB
    iexact HO
  iintro ⟨HB, HO⟩
  iapply (barWait_run m c (owe c 0) (above_owe c 0 1 (by omega))) $$ [Hcr HO Hat]
  · isplitl []; · iexact HI
    isplitl []; · iexact Hl
    isplitl [Hcr]; · iexact Hcr
    isplitl [HO]; · iexact HO
    iexact Hat
  unfold Wait0
  icases HA with ⟨⟨HAf, HAp⟩, HAc, HAt⟩
  icases HB with ⟨⟨HBf, HBp⟩, HBc, HBt⟩
  iintro ⟨⟨HnA, HnB⟩, HO, Hat⟩
  iapply (halves_run c (k0_off1 c) (k0_off2 c) (k0_off1_inb c) (k0_off2_inb c) (argX m c) (argW m c) (cslot (comm false) 0) (cslot (comm true) 0)
    (owe c 0) (above_owe c 0 0 (by omega))) $$ [Hf Hf' HW HO HAf HBf]
  · isplitl []; · iexact Hl
    isplitl [Hf]; · iexact Hf
    isplitl [Hf']; · iexact Hf'
    isplitl [HW]; · iexact HW
    isplitl [HO]; · iexact HO
    isplitl [HAf]; · iexact HAf
    iexact HBf
  iintro ⟨HX, HW, HO, HAf, HBf⟩
  iapply Hk
  isplitl [HAf HAp HAc HAt HnA]
  · iapply (dir_intro m false c)
    isplitl [HAf]; · iexact HAf
    isplitl [HAp]; · iexact HAp
    isplitl [HAc]; · iexact HAc
    isplitl [HAt]; · iexact HAt
    iexact HnA
  isplitl [HBf HBp HBc HBt HnB]
  · iapply (dir_intro m true c)
    isplitl [HBf]; · iexact HBf
    isplitl [HBp]; · iexact HBp
    isplitl [HBc]; · iexact HBc
    isplitl [HBt]; · iexact HBt
    iexact HnB
  isplitl [HX HW]
  · isplitl [HX]; · iexact HX
    iexact HW
  isplitl [HO]; · iexact HO
  iexact Hat

/-! ## The end -/

/-- A half of the result on its way out. -/
def ofly (c : Dev nD) (d : Bool) (o : ℕ) (h : o + 4096 ≤ 8192) (k : Fin 2) (V : S512x4096.Idx → Elt F .f32) : sProp (MM F) :=
  iprop(∃ f, ⌜(cslot (comm d) 0).view.read (Elt F) f = V⌝ ∗ flying c (osem k) (cslot (comm d) 0) (cslot (comm d) 0).view.set fullShare f (odst o h))

theorem out_start (c : Dev nD) (d : Bool) (o : ℕ) (h : o + 4096 ≤ 8192) (k : Fin 2) (V : S512x4096.Idx → Elt F .f32)
    {α : Type} (p : PUnit → TP F α) (Q : α → sProp (MM F)) :
    iprop(hold c (cslot (comm d) 0) V ∗ free c (odst o h) ∗ semVal ((c : Thread nD τ), .dma (osem k)) 0)
      ⊢ iprop((ofly c d o h k V -∗ go c (p ⟨⟩) Q) -∗ go c (outStart d o h k >>= p) Q) := by
  iintro ⟨Hh, Hd, Hv⟩ Hk
  unfold hold holds
  icases Hh with ⟨%f, %hf, Hh⟩
  unfold pts
  iapply (copy_start c (osem k) (cslot (comm d) 0) (cslot (comm d) 0).view.set fullShare f (odst o h) (Finset.Subset.refl _) (by decide) p Q) $$ [Hh Hd Hv]
  · isplitl [Hh]; · iexact Hh
    isplitl [Hd]; · unfold free holds pts; iexact Hd
    iexact Hv
  iintro Hf
  iapply Hk
  unfold ofly
  iexists f
  isplitr
  · ipureintro; exact hf
  · iexact Hf

theorem out_wait (c : Dev nD) (d : Bool) (o : ℕ) (h : o + 4096 ≤ 8192) (k : Fin 2) (V : S512x4096.Idx → Elt F .f32)
    {α : Type} (p : PUnit → TP F α) (Q : α → sProp (MM F)) :
    iprop(ofly c d o h k V ∗ owing c 0)
      ⊢ iprop((iprop(hold c (odst o h) V ∗ free c (cslot (comm d) 0) ∗ semVal ((c : Thread nD τ), .dma (osem k)) 0 ∗ owing c 0) -∗ go c (p ⟨⟩) Q)
          -∗ go c (outWait d o h k >>= p) Q) := by
  unfold ofly
  iintro ⟨⟨%f, %hf, Hf⟩, HO⟩ Hk
  iapply (copy_wait c (osem k) (cslot (comm d) 0) (cslot (comm d) 0).view.set fullShare f (odst o h) (Finset.Subset.refl _) 0 p Q) $$ [Hf HO]
  · isplitl [Hf]; · iexact Hf
    isplitl [HO]; · iexact HO
    rw [MayWait_zero]; iempintro
  rw [hf]
  iintro ⟨Hd, Hs, Hv, HO⟩
  iapply Hk
  isplitl [Hd]; · iexact Hd
  isplitl [Hs]
  · unfold free holds pts
    iexists f
    isplitr
    · ipureintro; trivial
    · iexact Hs
  isplitl [Hv]; · iexact Hv
  iexact HO

/-- The result of a device: its two halves. -/
def res (c : Dev nD) (V V' : S512x4096.Idx → Elt F .f32) : sProp (MM F) :=
  iprop(hold c (odst 0 (by omega)) V ∗ hold c (odst 4096 (by omega)) V')
/-- The result's buffer, and what its copies use. -/
def okit (c : Dev nD) : sProp (MM F) := iprop(free c (odst 0 (by omega)) ∗ free c (odst 4096 (by omega)))
def osems (c : Dev nD) : sProp (MM F) :=
  iprop(semVal ((c : Thread nD τ), .dma (osem 0)) 0 ∗ semVal ((c : Thread nD τ), .dma (osem 1)) 0)

theorem outs_run (c : Dev nD) (V V' : S512x4096.Idx → Elt F .f32) {α : Type} (p : PUnit → TP F α) (Q : α → sProp (MM F)) :
    iprop(hold c (cslot (comm false) 0) V ∗ hold c (cslot (comm true) 0) V' ∗ okit c ∗ osems c ∗ owing c 0)
      ⊢ iprop((iprop(free c (cslot (comm false) 0) ∗ free c (cslot (comm true) 0) ∗ res c V V' ∗ osems c ∗ owing c 0) -∗ go c (p ⟨⟩) Q)
          -∗ go c (outs >>= p) Q) := by
  unfold okit osems res
  iintro ⟨Hh, Hh', ⟨Hd, Hd'⟩, ⟨Hv, Hv'⟩, HO⟩ Hk
  unfold outs
  simp only [bind_assoc]
  iapply (out_start c false 0 _ 0 V) $$ [Hh Hd Hv]
  · isplitl [Hh]; · iexact Hh
    isplitl [Hd]; · iexact Hd
    iexact Hv
  iintro Hf
  iapply (out_start c true 4096 _ 1 V') $$ [Hh' Hd' Hv']
  · isplitl [Hh']; · iexact Hh'
    isplitl [Hd']; · iexact Hd'
    iexact Hv'
  iintro Hf'
  iapply (out_wait c false 0 _ 0 V) $$ [Hf HO]
  · isplitl [Hf]; · iexact Hf
    iexact HO
  iintro ⟨Hd, Hh, Hv, HO⟩
  iapply (out_wait c true 4096 _ 1 V') $$ [Hf' HO]
  · isplitl [Hf']; · iexact Hf'
    iexact HO
  iintro ⟨Hd', Hh', Hv', HO⟩
  iapply Hk
  isplitl [Hh]; · iexact Hh
  isplitl [Hh']; · iexact Hh'
  isplitl [Hd Hd']
  · isplitl [Hd]; · iexact Hd
    iexact Hd'
  isplitl [Hv Hv']
  · isplitl [Hv]; · iexact Hv
    iexact Hv'
  iexact HO

/-- The last step, and the result copied out. -/
theorem last_run (c : Dev nD) {α : Type} (k : PUnit → TP F α) (Q : α → sProp (MM F)) :
    iprop(recs m ∗ levAts L lv ∗ Dir m false c 6 ∗ Dir m true c 6 ∗ gear m c ∗ okit c ∗ osems c ∗ owing c (owe c 6))
      ⊢ iprop((iprop((Got m false c 6 ∗ free c (part false)) ∗ (Got m true c 6 ∗ free c (part true))
            ∗ gear m c ∗ res c (final m false c) (final m true c) ∗ osems c ∗ owing c 0) -∗ go c (k ⟨⟩) Q)
          -∗ go c (exchange c ⟨6, by omega⟩ (slotA 6) (slotB 6) >>= fun _ => tiles tileSilu 1 0 >>= fun _ => outs >>= k) Q) := by
  iintro ⟨#HI, #Hl, HD, HD', HG, HK, HV, HO⟩ Hk
  iapply (exchange_run m c 6 _) $$ [HD HD' HG HO]
  · isplitl []; · iexact HI
    isplitl []; · iexact Hl
    isplitl [HD]; · iexact HD
    isplitl [HD']; · iexact HD'
    isplitl [HG]; · iexact HG
    iexact HO
  rw [owe_last, show owedCr c 6 = 0 from if_neg (by omega), add_zero]
  unfold Got
  rw [show slotA 6 = 0 from rfl, show slotB 6 = 1 from rfl]
  iintro ⟨⟨⟨Hf, ⟨Hh, #Hr⟩, HS, HVc, HR⟩, Hp⟩, ⟨⟨Hf', ⟨Hh', #Hr'⟩, HS', HVc', HR'⟩, Hp'⟩, HG, HO⟩
  iapply (tiles_out tileSilu c 1 0 (A m false 6 (up false c)) (A m true 6 (up true c)) (partS m false c ⟨6, by omega⟩) (partS m true c ⟨6, by omega⟩)) $$ [Hh Hp Hf Hh' Hp' Hf']
  · isplitl [Hh Hp Hf]
    · isplitl [Hh]; · iexact Hh
      isplitl [Hp]; · iexact Hp
      iexact Hf
    isplitl [Hh']; · iexact Hh'
    isplitl [Hp']; · iexact Hp'
    iexact Hf'
  iintro ⟨⟨Hh, Hp, Hf⟩, Hh', Hp', Hf'⟩
  iapply (outs_run c (final m false c) (final m true c)) $$ [Hf Hf' HK HV HO]
  · isplitl [Hf]; · iexact Hf
    isplitl [Hf']; · iexact Hf'
    isplitl [HK]; · iexact HK
    isplitl [HV]; · iexact HV
    iexact HO
  iintro ⟨Hf, Hf', HK, HV, HO⟩
  iapply Hk
  isplitl [Hf Hh HS HVc HR Hp]
  · isplitr [Hp]
    · isplitl [Hf]; · iexact Hf
      isplitl [Hh]
      · isplitl [Hh]; · iexact Hh
        iexact Hr
      isplitl [HS]; · iexact HS
      isplitl [HVc]; · iexact HVc
      iexact HR
    · iapply (holds_free c (part false)) $$ Hp
  isplitl [Hf' Hh' HS' HVc' HR' Hp']
  · isplitr [Hp']
    · isplitl [Hf']; · iexact Hf'
      isplitl [Hh']
      · isplitl [Hh']; · iexact Hh'
        iexact Hr'
      isplitl [HS']; · iexact HS'
      isplitl [HVc']; · iexact HVc'
      iexact HR'
    · iapply (holds_free c (part true)) $$ Hp'
  isplitl [HG]; · iexact HG
  isplitl [HK]; · iexact HK
  isplitl [HV]; · iexact HV
  iexact HO

/-! ## The cells closed -/

theorem close (c : Dev nD) (sm : SemLoc sig) (R : ℕ) (hR : ∀ r, R ≤ r → dut (kindOf sm) r = ∅)
    (h : recs m ⊢ iprop(∃ κ, cellInv ER (Rd m) κ ((c : Thread nD τ), sm))) :
    iprop(recs m ∗ atPos ER ((c : Thread nD τ), sm) R ∅ 0) ⊢ |={Set.univ}=> semVal ((c : Thread nD τ), sm) 0 := by
  iintro ⟨HI, Hat⟩
  ihave H := h $$ HI
  icases H with ⟨%κ, #H⟩
  iapply (Rounds.cell_close ER (Rd m) (Set.mem_univ κ) (fun h => h) (R := R) (fun r hr => by rw [duties_eq]; exact hR r hr))
  isplitl []; · iexact H
  iexact Hat

/-- A direction's counters at zero. -/
def zeros (d : Bool) (c : Dev nD) : sProp (MM F) :=
  iprop(semVal (sendCell d 0 c) 0 ∗ semVal (sendCell d 1 c) 0 ∗ semVal (recvCell d 0 c) 0 ∗ semVal (recvCell d 1 c) 0 ∗ semVal (crCell d c) 0)

theorem d_close (d : Bool) (c : Dev nD) : iprop(recs m ∗ Got m d c 6 ∗ free c (part d)) ⊢ |={Set.univ}=> iprop(bufs d c ∗ zeros d c) := by
  unfold Got Rest at_
  rw [show slotA 6 = 0 from rfl, show slotB 6 = 1 from rfl, show 6 / 2 + 1 = 4 from rfl, show (6 + 1) / 2 = 3 from rfl]
  iintro ⟨#HI, ⟨Hf, ⟨Hh, -⟩, ⟨H1, -⟩, ⟨H2, -⟩, ⟨H3, -⟩, ⟨H4, -⟩, H5, -⟩, Hp⟩
  imod (close m c (.dma (ssem d 0)) 4 (fun r hr => by rw [kind_send]; exact if_neg (show ¬ 2 * r + 0 < 7 by omega)) (inv_send m d 0 c)) $$ [H1] with Z1
  · isplitl []; · iexact HI
    iexact H1
  imod (close m c (.dma (rsem d 1)) 4 (fun r hr => by rw [kind_recv]; exact if_neg (show ¬ 2 * r + (1 - 1) < 7 by omega)) (inv_recv m d 1 c)) $$ [H2] with Z2
  · isplitl []; · iexact HI
    iexact H2
  imod (close m c (.dma (ssem d 1)) 3 (fun r hr => by rw [kind_send]; exact if_neg (show ¬ 2 * r + 1 < 7 by omega)) (inv_send m d 1 c)) $$ [H3] with Z3
  · isplitl []; · iexact HI
    iexact H3
  imod (close m c (.dma (rsem d 0)) 3 (fun r hr => by rw [kind_recv]; exact if_neg (show ¬ 2 * r + (1 - 0) < 7 by omega)) (inv_recv m d 0 c)) $$ [H4] with Z4
  · isplitl []; · iexact HI
    iexact H4
  imod (close m c (.reg (csem d)) 6 (fun r hr => by rw [kind_credit]; exact if_neg (show ¬ r < 6 by omega)) (inv_credit m d c)) $$ [H5] with Z5
  · isplitl []; · iexact HI
    iexact H5
  imodintro
  unfold bufs zeros
  isplitl [Hf Hh Hp]
  · isplitl [Hf]; · iexact Hf
    isplitl [Hh]; · iapply (holds_free c (cslot (comm d) 1)) $$ Hh
    iexact Hp
  isplitl [Z1]; · iexact Z1
  isplitl [Z3]; · iexact Z3
  isplitl [Z4]; · iexact Z4
  isplitl [Z2]; · iexact Z2
  iexact Z5

/-! ## The run -/

theorem run_eq (c : Dev nD) : run (F := F) c = (start c >>= fun _ =>
    step c ⟨0, by omega⟩ (slotA 0) (slotB 0) >>= fun _ => creditsWait >>= fun _ =>
    step c ⟨1, by omega⟩ (slotA 1) (slotB 1) >>= fun _ => creditsWait >>= fun _ =>
    step c ⟨2, by omega⟩ (slotA 2) (slotB 2) >>= fun _ => creditsWait >>= fun _ =>
    step c ⟨3, by omega⟩ (slotA 3) (slotB 3) >>= fun _ => creditsWait >>= fun _ =>
    step c ⟨4, by omega⟩ (slotA 4) (slotB 4) >>= fun _ => creditsWait >>= fun _ =>
    step c ⟨5, by omega⟩ (slotA 5) (slotB 5) >>= fun _ => creditsWait >>= fun _ =>
    exchange c ⟨6, by omega⟩ (slotA 6) (slotB 6) >>= fun _ => tiles tileSilu 1 0 >>= fun _ => outs >>= fun _ => pure ⟨⟩) := by
  rw [show (outs (F := F) >>= fun _ => pure ⟨⟩) = outs from bind_pure _]
  rfl

/-- What a device ends with. -/
def Done (c : Dev nD) : sProp (MM F) :=
  iprop((bufs false c ∗ zeros false c) ∗ (bufs true c ∗ zeros true c) ∗ gear m c ∗ res c (final m false c) (final m true c) ∗ osems c
    ∗ semVal (barCell c) 0)

theorem run_run (c : Dev nD) (Q : PUnit → sProp (MM F)) :
    iprop(recs m ∗ levAts L lv ∗ Ini c ∗ gear m c ∗ okit c ∗ osems c ∗ owing c (O₀ c) ∗ (iprop(Done m c ∗ owing c 0) -∗ Q ⟨⟩)) ⊢ go c (run c) Q := by
  rw [run_eq]
  iintro ⟨#HI, #Hl, Hini, HG, HK, HV, HO, HQ⟩
  iapply (start_run m c) $$ [Hini HG HO]
  · isplitl []; · iexact HI
    isplitl []; · iexact Hl
    isplitl [Hini]; · iexact Hini
    isplitl [HG]; · iexact HG
    iexact HO
  iintro ⟨HD, HD', HG, HO, Hat⟩
  iapply (step_run m c 0 (by omega)) $$ [HD HD' HG HO]
  · isplitl []; · iexact HI
    isplitl []; · iexact Hl
    isplitl [HD]; · iexact HD
    isplitl [HD']; · iexact HD'
    isplitl [HG]; · iexact HG
    iexact HO
  iintro ⟨HD, HD', HG, HO⟩
  iapply (step_run m c 1 (by omega)) $$ [HD HD' HG HO]
  · isplitl []; · iexact HI
    isplitl []; · iexact Hl
    isplitl [HD]; · iexact HD
    isplitl [HD']; · iexact HD'
    isplitl [HG]; · iexact HG
    iexact HO
  iintro ⟨HD, HD', HG, HO⟩
  iapply (step_run m c 2 (by omega)) $$ [HD HD' HG HO]
  · isplitl []; · iexact HI
    isplitl []; · iexact Hl
    isplitl [HD]; · iexact HD
    isplitl [HD']; · iexact HD'
    isplitl [HG]; · iexact HG
    iexact HO
  iintro ⟨HD, HD', HG, HO⟩
  iapply (step_run m c 3 (by omega)) $$ [HD HD' HG HO]
  · isplitl []; · iexact HI
    isplitl []; · iexact Hl
    isplitl [HD]; · iexact HD
    isplitl [HD']; · iexact HD'
    isplitl [HG]; · iexact HG
    iexact HO
  iintro ⟨HD, HD', HG, HO⟩
  iapply (step_run m c 4 (by omega)) $$ [HD HD' HG HO]
  · isplitl []; · iexact HI
    isplitl []; · iexact Hl
    isplitl [HD]; · iexact HD
    isplitl [HD']; · iexact HD'
    isplitl [HG]; · iexact HG
    iexact HO
  iintro ⟨HD, HD', HG, HO⟩
  iapply (step_run m c 5 (by omega)) $$ [HD HD' HG HO]
  · isplitl []; · iexact HI
    isplitl []; · iexact Hl
    isplitl [HD]; · iexact HD
    isplitl [HD']; · iexact HD'
    isplitl [HG]; · iexact HG
    iexact HO
  iintro ⟨HD, HD', HG, HO⟩
  iapply (last_run m c) $$ [HD HD' HG HK HV HO]
  · isplitl []; · iexact HI
    isplitl []; · iexact Hl
    isplitl [HD]; · iexact HD
    isplitl [HD']; · iexact HD'
    isplitl [HG]; · iexact HG
    isplitl [HK]; · iexact HK
    isplitl [HV]; · iexact HV
    iexact HO
  iintro ⟨HD, HD', HG, HR, HV, HO⟩
  imod (d_close m false c) $$ [HD] with HD
  · isplitl []; · iexact HI
    iexact HD
  imod (d_close m true c) $$ [HD'] with HD'
  · isplitl []; · iexact HI
    iexact HD'
  imod (close m c (.reg bsem) 1 (fun r hr => by rw [kind_bar]; exact if_neg (show ¬ r = 0 by omega)) (inv_bar m c)) $$ [Hat] with HB
  · isplitl []; · iexact HI
    iexact Hat
  rw [Prog.pure_eq_ret, wp_ret]
  imodintro
  iapply HQ
  unfold Done
  isplitr [HO]
  · isplitl [HD]; · iexact HD
    isplitl [HD']; · iexact HD'
    isplitl [HG]; · iexact HG
    isplitl [HR]; · iexact HR
    isplitl [HV]; · iexact HV
    iexact HB
  · iexact HO

end Cert.KernelIdeal.Ring

end
-- ==== Proof.Mem.lean ====
/- The device's buffers cut into what the run holds of them, and joined again: the slots of a doubled buffer, and
   the two column halves of the result. -/
module

public import proofs.«01_k».proof.Proof.Run
public import proofs.«01_k».proof.Proof.Gen.KernelIdeal.Launch

@[expose] public section

set_option synthInstance.maxSize 4096

noncomputable section

namespace Cert.KernelIdeal.Ring

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Two parts of a buffer -/

/-- A buffer, holding anything. -/
abbrev buf (c : Dev nD) (b : Ref sig .tc) : sProp (MM F) := iprop(∃ f : Buf (Elt F) ((c : Thread nD τ).loc b), ((c : Thread nD τ).loc b) ↦{fullShare} f)

theorem cut (ℓ : Loc nD τ sig) (I J : Finset (Idx ℓ)) (hd : Disjoint I J) (hu : I ∪ J = Finset.univ) (f : Buf (Elt F) ℓ) :
    ((ℓ ↦{fullShare} f) : sProp (MM F)) ⊢ iprop((ℓ ↦[I]{fullShare} f) ∗ ℓ ↦[J]{fullShare} f) := by
  rw [← hu]; exact (pointsTo_union hd).1

theorem sew (ℓ : Loc nD τ sig) (I J : Finset (Idx ℓ)) (hd : Disjoint I J) (hu : I ∪ J = Finset.univ) (f g : Buf (Elt F) ℓ) :
    iprop((ℓ ↦[I]{fullShare} f) ∗ ℓ ↦[J]{fullShare} g) ⊢ ((ℓ ↦{fullShare} J.piecewise g f) : sProp (MM F)) := by
  rw [← hu]; exact pointsTo_join hd

/-! ## The slots of a doubled buffer -/

theorem slots_disjoint (A B : ℕ) : Disjoint (slotRect A B 0).set (slotRect A B 1).set :=
  Rect.unit_disjoint (s := ⟨3, ![2, A, B]⟩) 0 (.inl (Nat.le_refl _))

theorem slots_union (A B : ℕ) : (slotRect A B 0).set ∪ (slotRect A B 1).set = Finset.univ := by
  ext i
  rw [Finset.mem_union, Rect.mem_set_unit, Rect.mem_set_unit]
  refine iff_of_true ?_ (Finset.mem_univ _)
  have h0 : (i 0).val < 2 := (i 0).isLt
  have h1 : (i 1).val < A := (i 1).isLt
  have h2 : (i 2).val < B := (i 2).isLt
  rcases Nat.lt_or_ge (i 0).val 1 with h | h
  · left
    intro a
    fin_cases a
    · exact ⟨Nat.zero_le _, h⟩
    · exact ⟨Nat.zero_le _, by show (i 1).val < 0 + A; omega⟩
    · exact ⟨Nat.zero_le _, by show (i 2).val < 0 + B; omega⟩
  · right
    intro a
    fin_cases a
    · exact ⟨h, h0⟩
    · exact ⟨Nat.zero_le _, by show (i 1).val < 0 + A; omega⟩
    · exact ⟨Nat.zero_le _, by show (i 2).val < 0 + B; omega⟩

theorem slot_set_f (k : Fin 2) : (cslot (comm false) k).view.set = (slotRect 512 4096 k).set := (View.set_reshape _ _).trans (View.set_slice_whole _ _)
theorem slot_set_t (k : Fin 2) : (cslot (comm true) k).view.set = (slotRect 512 4096 k).set := (View.set_reshape _ _).trans (View.set_slice_whole _ _)
theorem xslot_set (k : Fin 2) : (xslot k).view.set = (slotRect 512 512 k).set := (View.set_reshape _ _).trans (View.set_slice_whole _ _)
theorem wslot_set (k : Fin 2) : (wslot k).view.set = (slotRect 512 1024 k).set := (View.set_reshape _ _).trans (View.set_slice_whole _ _)

/-- Two memrefs that between them are a whole buffer: freeing the buffer is freeing both. -/
theorem free_cut {sp : Space} {s : Shape} {e : EltTy} (c : Dev nD) (b : Ref sig .tc) (m₀ m₁ : Memref sig .tc sp s e) (I J : Finset (Idx ((c : Thread nD τ).loc b)))
    (hd : Disjoint I J) (hu : I ∪ J = Finset.univ)
    (h₀ : (free (F := F) c m₀) = iprop(∃ f : Buf (Elt F) ((c : Thread nD τ).loc b), ⌜True⌝ ∗ ((c : Thread nD τ).loc b) ↦[I]{fullShare} f))
    (h₁ : (free (F := F) c m₁) = iprop(∃ f : Buf (Elt F) ((c : Thread nD τ).loc b), ⌜True⌝ ∗ ((c : Thread nD τ).loc b) ↦[J]{fullShare} f)) :
    (buf c b : sProp (MM F)) ⊣⊢ iprop(free c m₀ ∗ free c m₁) := by
  rw [h₀, h₁]
  constructor
  · iintro ⟨%f, H⟩
    ihave H := (cut ((c : Thread nD τ).loc b) I J hd hu f) $$ H
    icases H with ⟨H, H'⟩
    isplitl [H]
    · iexists f
      isplitr
      · ipureintro; trivial
      · iexact H
    · iexists f
      isplitr
      · ipureintro; trivial
      · iexact H'
  · iintro ⟨⟨%f, -, H⟩, %g, -, H'⟩
    iexists _
    iapply (sew ((c : Thread nD τ).loc b) I J hd hu f g)
    isplitl [H]; · iexact H
    iexact H'

theorem comm_cut (d : Bool) (c : Dev nD) :
    (buf c (comm d).view.ref : sProp (MM F)) ⊣⊢ iprop(free c (cslot (comm d) 0) ∗ free c (cslot (comm d) 1)) := by
  cases d
  · exact free_cut c cc0_scratch0 _ _ (cslot (comm false) 0).view.set (cslot (comm false) 1).view.set
      (by rw [slot_set_f, slot_set_f]; exact slots_disjoint 512 4096) (by rw [slot_set_f, slot_set_f]; exact slots_union 512 4096) rfl rfl
  · exact free_cut c cc0_scratch1 _ _ (cslot (comm true) 0).view.set (cslot (comm true) 1).view.set
      (by rw [slot_set_t, slot_set_t]; exact slots_disjoint 512 4096) (by rw [slot_set_t, slot_set_t]; exact slots_union 512 4096) rfl rfl
theorem x_cut (c : Dev nD) : (buf c cc0_scratch4 : sProp (MM F)) ⊣⊢ iprop(free c (xslot 0) ∗ free c (xslot 1)) :=
  free_cut c cc0_scratch4 _ _ (xslot 0).view.set (xslot 1).view.set
    (by rw [xslot_set, xslot_set]; exact slots_disjoint 512 512) (by rw [xslot_set, xslot_set]; exact slots_union 512 512) rfl rfl
theorem w_cut (c : Dev nD) : (buf c cc0_scratch5 : sProp (MM F)) ⊣⊢ iprop(free c (wslot 0) ∗ free c (wslot 1)) :=
  free_cut c cc0_scratch5 _ _ (wslot 0).view.set (wslot 1).view.set
    (by rw [wslot_set, wslot_set]; exact slots_disjoint 512 1024) (by rw [wslot_set, wslot_set]; exact slots_union 512 1024) rfl rfl

theorem part_buf (d : Bool) (c : Dev nD) : (buf c (part d).view.ref : sProp (MM F)) ⊣⊢ free c (part d) := by
  have h : (part d).view.set = Finset.univ := by cases d <;> exact View.set_whole _
  unfold free holds pts
  rw [h]
  constructor
  · iintro ⟨%f, H⟩
    iexists f
    isplitr
    · ipureintro; trivial
    · iexact H
  · iintro ⟨%f, -, H⟩
    iexists f
    iexact H

/-- The sums' and the products' buffers, and the staging buffers, whole. -/
def scratch (c : Dev nD) : sProp (MM F) :=
  iprop(buf c cc0_scratch0 ∗ buf c cc0_scratch1 ∗ buf c cc0_scratch2 ∗ buf c cc0_scratch3 ∗ buf c cc0_scratch4 ∗ buf c cc0_scratch5)

def slots (c : Dev nD) : sProp (MM F) :=
  iprop(bufs false c ∗ bufs true c ∗ (free c (xslot 0) ∗ free c (xslot 1)) ∗ (free c (wslot 0) ∗ free c (wslot 1)))

theorem scratch_cut (c : Dev nD) : (scratch c : sProp (MM F)) ⊣⊢ slots c := by
  unfold scratch slots bufs
  constructor
  · iintro ⟨H0, H1, H2, H3, H4, H5⟩
    ihave H0 := (comm_cut (F := F) false c).1 $$ H0
    ihave H1 := (comm_cut (F := F) true c).1 $$ H1
    icases H0 with ⟨H0, H0'⟩
    icases H1 with ⟨H1, H1'⟩
    isplitl [H0 H0' H2]
    · isplitl [H0]; · iexact H0
      isplitl [H0']; · iexact H0'
      iapply (part_buf (F := F) false c).1; iexact H2
    isplitl [H1 H1' H3]
    · isplitl [H1]; · iexact H1
      isplitl [H1']; · iexact H1'
      iapply (part_buf (F := F) true c).1; iexact H3
    isplitl [H4]
    · iapply (x_cut (F := F) c).1; iexact H4
    · iapply (w_cut (F := F) c).1; iexact H5
  · iintro ⟨⟨H0, H0', H2⟩, ⟨H1, H1', H3⟩, H4, H5⟩
    isplitl [H0 H0']
    · iapply (comm_cut (F := F) false c).2
      isplitl [H0]; · iexact H0
      iexact H0'
    isplitl [H1 H1']
    · iapply (comm_cut (F := F) true c).2
      isplitl [H1]; · iexact H1
      iexact H1'
    isplitl [H2]
    · iapply (part_buf (F := F) false c).2; iexact H2
    isplitl [H3]
    · iapply (part_buf (F := F) true c).2; iexact H3
    isplitl [H4]
    · iapply (x_cut (F := F) c).2; iexact H4
    · iapply (w_cut (F := F) c).2; iexact H5

/-! ## The operands in two shares -/

theorem shares (ℓ : Loc nD τ sig) (f : Buf (Elt F) ℓ) :
    ((ℓ ↦{fullShare} f) : sProp (MM F)) ⊣⊢ iprop((ℓ ↦{fullShare.left} f) ∗ ℓ ↦{fullShare.right} f) :=
  pointsTo_share (PosShare.mem_left_op_right fullShare)

/-! ## The result in two halves -/

theorem le0 : 0 + 4096 ≤ 8192 := by decide
theorem le1 : 4096 + 4096 ≤ 8192 := by decide
/-- A half's elements of the result. -/
def oS (o : ℕ) (h : o + 4096 ≤ 8192) : Finset S512x8192.Idx := (odst o h).view.set
theorem oS_eq (o : ℕ) (h : o + 4096 ≤ 8192) : oS o h = (Rect.unit (s := S512x8192) ![0, o] S512x4096.size (inbO o h)).set := View.set_slice_whole _ _

theorem odst_disjoint : Disjoint (oS 0 le0) (oS 4096 le1) := by
  rw [oS_eq, oS_eq]
  exact Rect.unit_disjoint (s := S512x8192) 1 (.inl (Nat.le_refl _))

theorem odst_union : (oS 0 le0) ∪ (oS 4096 le1) = Finset.univ := by
  rw [oS_eq, oS_eq]
  ext (i : S512x8192.Idx)
  rw [Finset.mem_union, Rect.mem_set_unit, Rect.mem_set_unit]
  refine iff_of_true ?_ (Finset.mem_univ _)
  have h0 : (i 0).val < 512 := (i 0).isLt
  have h1 : (i 1).val < 8192 := (i 1).isLt
  rcases Nat.lt_or_ge (i 1).val 4096 with h | h
  · left
    intro a
    fin_cases a
    · exact ⟨Nat.zero_le _, by show (i 0).val < 0 + 512; omega⟩
    · exact ⟨Nat.zero_le _, by show (i 1).val < 0 + 4096; omega⟩
  · right
    intro a
    fin_cases a
    · exact ⟨Nat.zero_le _, by show (i 0).val < 0 + 512; omega⟩
    · exact ⟨h, by show (i 1).val < 4096 + 4096; omega⟩

theorem out_cut (c : Dev nD) (f : Buf (Elt F) ((c : Thread nD τ).loc main_v1)) :
    ((((c : Thread nD τ).loc main_v1) ↦{fullShare} f) : sProp (MM F)) ⊢ okit c := by
  iintro H
  ihave H := (cut ((c : Thread nD τ).loc main_v1) (oS 0 le0) (oS 4096 le1) odst_disjoint odst_union f) $$ H
  icases H with ⟨H, H'⟩
  unfold okit free holds pts
  isplitl [H]
  · iexists f
    isplitr
    · ipureintro; trivial
    · iexact H
  · iexists f
    isplitr
    · ipureintro; trivial
    · iexact H'

/-- The result's contents, by halves. -/
def IsRes (c : Dev nD) (V V' : S512x4096.Idx → Elt F .f32) (f : Buf (Elt F) ((c : Thread nD τ).loc main_v1)) : Prop :=
  (odst 0 le0).view.read (Elt F) f = V ∧ (odst 4096 le1).view.read (Elt F) f = V'

theorem out_sew (c : Dev nD) (V V' : S512x4096.Idx → Elt F .f32) :
    (res c V V' : sProp (MM F)) ⊢ iprop(∃ f : Buf (Elt F) ((c : Thread nD τ).loc main_v1), ⌜IsRes c V V' f⌝ ∗ ((c : Thread nD τ).loc main_v1) ↦{fullShare} f) := by
  unfold res hold holds pts
  iintro ⟨⟨%f, %hf, H⟩, %g, %hg, H'⟩
  iexists ((oS 4096 le1).piecewise g f)
  isplitr
  · ipureintro
    refine ⟨?_, ?_⟩
    · rw [← hf]
      exact View.read_congr fun i hi => Finset.piecewise_eq_of_notMem _ _ _ (Finset.disjoint_left.mp odst_disjoint hi)
    · rw [← hg]
      exact View.read_congr fun i hi => Finset.piecewise_eq_of_mem _ _ _ hi
  · iapply (sew ((c : Thread nD τ).loc main_v1) (oS 0 le0) (oS 4096 le1) odst_disjoint odst_union f g)
    isplitl [H]; · iexact H
    iexact H'

end Cert.KernelIdeal.Ring

end
-- ==== Proof.Ghost.lean ====
/- The launch's tokens: every cell of every device opened at round 0, the duties dealt to the devices that pay them,
   and the credits for what the devices owe each other. -/
module

public import proofs.«01_k».proof.Proof.Mem

@[expose] public section

set_option synthInstance.maxSize 4096

noncomputable section

namespace Cert.KernelIdeal.Ring

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

/-! ## The cells -/

theorem csemK_injective : Function.Injective csemK := by
  intro k k' h
  fin_cases k <;> fin_cases k' <;> first | rfl | exact absurd h (by decide)

theorem kcell_injective : Function.Injective kcell := by
  rintro ⟨c, k⟩ ⟨c', k'⟩ h
  have h1 : c = c' := congrArg (fun g : GSem nD τ sig => g.1.1) h
  have h2 : k = k' := csemK_injective (congrArg Prod.snd h)
  rw [h1, h2]

def ringCells : Finset (GSem nD τ sig) := Finset.univ.map ⟨kcell, kcell_injective⟩

/-! ## The duties -/

/-- The duties of a direction at one device's cells: at the barrier, of the sends, of the arrivals, of the credits. -/
abbrev Duty := Unit ⊕ (Fin 7 ⊕ (Fin 7 ⊕ Fin 6))

abbrev tokOf : Dev nD × Bool × Duty → GSem nD τ sig × ℕ × Bool
  | (c, d, .inl _) => (barCell c, 0, d)
  | (c, d, .inr (.inl i)) => (sendCell d (slotA i.val) c, i.val / 2, false)
  | (c, d, .inr (.inr (.inl i))) => (recvCell d (slotB i.val) c, i.val / 2, false)
  | (c, d, .inr (.inr (.inr i))) => (crCell d c, i.val, false)

/-- Whose duty a token is, its direction, and its step. -/
def whose (x : GSem nD τ sig × ℕ × Bool) : Dev nD × Bool × ℕ × ℕ :=
  (x.1.1.1, match kindOf x.1.2 with
    | .bar => (x.2.2, 0, 0)
    | .send d k => (d, 1, 2 * x.2.1 + k.val)
    | .recv d k => (d, 2, stepOf k x.2.1)
    | .credit d => (d, 3, x.2.1)
    | .loc => (false, 4, 0))

def place : Dev nD × Bool × Duty → Dev nD × Bool × ℕ × ℕ
  | (c, d, .inl _) => (c, d, 0, 0)
  | (c, d, .inr (.inl i)) => (c, d, 1, i.val)
  | (c, d, .inr (.inr (.inl i))) => (c, d, 2, i.val)
  | (c, d, .inr (.inr (.inr i))) => (c, d, 3, i.val)

theorem whose_tokOf (t : Dev nD × Bool × Duty) : whose (tokOf t) = place t := by
  obtain ⟨c, d, _ | i | i | i⟩ := t
  · rfl
  · unfold whose; simp only [kind_send]
    show (c, d, 1, 2 * (i.val / 2) + i.val % 2) = (c, d, 1, i.val)
    rw [Nat.div_add_mod]
  · unfold whose; simp only [kind_recv, stepOf_slotB]; rfl
  · unfold whose; simp only [kind_credit]; rfl

theorem place_injective : Function.Injective place := by
  rintro ⟨c, d, _ | i | i | i⟩ ⟨c', d', _ | j | j | j⟩ h <;> simp only [place, Prod.mk.injEq] at h <;> obtain ⟨rfl, rfl, h1, h2⟩ := h <;>
    first
      | rfl
      | (exact absurd h1 (by decide))
      | (rw [Fin.ext h2])

theorem tokOf_injective : Function.Injective tokOf := fun t t' h => place_injective (by rw [← whose_tokOf, h, whose_tokOf])

def ringToks : Finset (GSem nD τ sig × ℕ × Bool) := Finset.univ.map ⟨tokOf, tokOf_injective⟩

/-- A direction's duty tokens at device `c`'s own cells, -/
def minted (d : Bool) (c : Dev nD) : sProp (MM F) :=
  iprop(dutyTok ER (barCell c) 0 d ∗ (bigSep Finset.univ fun i : Fin 7 => dutyTok ER (sendCell d (slotA i.val) c) (i.val / 2) false)
    ∗ (bigSep Finset.univ fun i : Fin 7 => dutyTok ER (recvCell d (slotB i.val) c) (i.val / 2) false)
    ∗ bigSep Finset.univ fun i : Fin 6 => dutyTok ER (crCell d c) i.val false)
/-- and those it pays. -/
def pays (d : Bool) (c : Dev nD) : sProp (MM F) :=
  iprop(dutyTok ER (barCell (up d c)) 0 d ∗ (bigSep Finset.univ fun i : Fin 7 => dutyTok ER (sendCell d (slotA i.val) c) (i.val / 2) false)
    ∗ (bigSep Finset.univ fun i : Fin 7 => dutyTok ER (recvCell d (slotB i.val) (down d c)) (i.val / 2) false)
    ∗ bigSep Finset.univ fun i : Fin 6 => dutyTok ER (crCell d (up d c)) i.val false)

/-- The ring's neighbours as a bijection. -/
def upE (d : Bool) : Dev nD ≃ Dev nD := ⟨up d, down d, down_up d, up_down d⟩

theorem minted_around (d : Bool) : (bigSep Finset.univ fun c : Dev nD => (minted d c : sProp (MM F))) ⊢ bigSep Finset.univ fun c : Dev nD => pays d c := by
  unfold minted pays
  rw [bigSep_sep', bigSep_sep', bigSep_sep', bigSep_sep', bigSep_sep', bigSep_sep',
    bigSep_univ_equiv (upE d) (fun c : Dev nD => (dutyTok ER (barCell c) 0 d : sProp (MM F))),
    bigSep_univ_equiv (upE d).symm (fun c : Dev nD => (bigSep Finset.univ fun i : Fin 7 => dutyTok ER (recvCell d (slotB i.val) c) (i.val / 2) false : sProp (MM F))),
    bigSep_univ_equiv (upE d) (fun c : Dev nD => (bigSep Finset.univ fun i : Fin 6 => dutyTok ER (crCell d c) i.val false : sProp (MM F)))]
  exact .rfl

theorem bigSep_bool (Φ : Bool → sProp (MM F)) : bigSep Finset.univ Φ = iprop(Φ false ∗ Φ true) :=
  bigSep_univ_eq_bigSepL [false, true] (by decide) (by decide) Φ

theorem bigSep_unit (Φ : Unit → sProp (MM F)) : bigSep Finset.univ Φ = Φ () :=
  bigSep_univ_eq_bigSepL [()] (by decide) (by decide) Φ

theorem bigSep_Ico_of_fin (n : ℕ) (Φ : ℕ → sProp (MM F)) : (bigSep Finset.univ fun i : Fin n => Φ i.val) = bigSep (Finset.Ico 0 n) Φ := by
  have h : Finset.Ico 0 n = Finset.univ.map (Fin.valEmbedding (n := n)) := by
    ext x
    simp only [Finset.mem_Ico, Finset.mem_map, Finset.mem_univ, true_and, Fin.valEmbedding_apply]
    exact ⟨fun h => ⟨⟨x, h.2⟩, rfl⟩, fun ⟨i, hi⟩ => hi ▸ ⟨Nat.zero_le _, i.isLt⟩⟩
  rw [h, bigSep_map]; rfl

/-! ## What the launch deals each device -/

/-- The kernel's own semaphores: the credits', then those of the operands, of the result, of the transfers. -/
def own : Fin 16 → SemLoc sig :=
  ![.reg (csem false), .reg (csem true), .dma (ssem false 0), .dma (ssem false 1), .dma (ssem true 0), .dma (ssem true 1), .dma (rsem false 0), .dma (rsem false 1), .dma (rsem true 0), .dma (rsem true 1),
    .dma (xsem 0), .dma (xsem 1), .dma (wsem 0), .dma (wsem 1), .dma (osem 0), .dma (osem 1)]

theorem ownSemFacts : Pipeline.OwnSemFacts cfg0.spec own := by decide

/-- The semaphores of the local copies, at zero. -/
def locals (c : Dev nD) : sProp (MM F) :=
  iprop((semVal ((c : Thread nD τ), .dma (xsem 0)) 0 ∗ semVal ((c : Thread nD τ), .dma (xsem 1)) 0)
    ∗ (semVal ((c : Thread nD τ), .dma (wsem 0)) 0 ∗ semVal ((c : Thread nD τ), .dma (wsem 1)) 0) ∗ osems c)

/-- The ring's cells, at zero. -/
def zeroCells (c : Dev nD) : sProp (MM F) := iprop(zeros false c ∗ zeros true c)

abbrev ownZero (c : Dev nD) : sProp (MM F) := Pipeline.ownSems0 (Ix := ℕ) (Name := ℕ) (U := UU) (Lvl := ℕ) (Val := Elt F) (τ := τ) own c

theorem ownSems0_list (c : Dev nD) : (ownZero c : sProp (MM F)) = iprop(
    semVal ((c : Thread nD τ), own 0) 0 ∗ semVal ((c : Thread nD τ), own 1) 0 ∗ semVal ((c : Thread nD τ), own 2) 0 ∗ semVal ((c : Thread nD τ), own 3) 0 ∗ semVal ((c : Thread nD τ), own 4) 0
    ∗ semVal ((c : Thread nD τ), own 5) 0 ∗ semVal ((c : Thread nD τ), own 6) 0 ∗ semVal ((c : Thread nD τ), own 7) 0 ∗ semVal ((c : Thread nD τ), own 8) 0 ∗ semVal ((c : Thread nD τ), own 9) 0
    ∗ semVal ((c : Thread nD τ), own 10) 0 ∗ semVal ((c : Thread nD τ), own 11) 0 ∗ semVal ((c : Thread nD τ), own 12) 0 ∗ semVal ((c : Thread nD τ), own 13) 0 ∗ semVal ((c : Thread nD τ), own 14) 0 ∗ semVal ((c : Thread nD τ), own 15) 0) := by
  unfold ownZero
  rw [Pipeline.ownSems0_eq_of_list c own [0, 1, 2, 3, 4, 5, 6, 7, 8, 9, 10, 11, 12, 13, 14, 15] (by decide) (by decide)]; rfl

theorem ownSems0_eq (c : Dev nD) : (ownZero c : sProp (MM F)) ⊣⊢ iprop(zeroCells c ∗ locals c) := by
  rw [ownSems0_list]
  unfold zeroCells zeros locals osems
  constructor
  · iintro ⟨H0, H1, H2, H3, H4, H5, H6, H7, H8, H9, H10, H11, H12, H13, H14, H15⟩
    isplitl [H0 H1 H2 H3 H4 H5 H6 H7 H8 H9]
    · isplitl [H0 H2 H3 H6 H7]
      · isplitl [H2]; · iexact H2
        isplitl [H3]; · iexact H3
        isplitl [H6]; · iexact H6
        isplitl [H7]; · iexact H7
        iexact H0
      · isplitl [H4]; · iexact H4
        isplitl [H5]; · iexact H5
        isplitl [H8]; · iexact H8
        isplitl [H9]; · iexact H9
        iexact H1
    · isplitl [H10 H11]
      · isplitl [H10]; · iexact H10
        iexact H11
      isplitl [H12 H13]
      · isplitl [H12]; · iexact H12
        iexact H13
      isplitl [H14]; · iexact H14
      iexact H15
  · iintro ⟨⟨⟨H2, H3, H6, H7, H0⟩, H4, H5, H8, H9, H1⟩, ⟨H10, H11⟩, ⟨H12, H13⟩, H14, H15⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

/-- The barrier's semaphore is the runtime's. -/
theorem unscopedSems0_eq (c : Dev nD) : (unscopedSems0 c : sProp (MM F)) = semVal (barCell c) 0 := by
  unfold unscopedSems0; rw [bigSep_eq_bigSepL_of_eq [SemLoc.reg bsem] (by decide) (by decide)]; rfl

theorem bigSep_fin11 (Φ : Fin 11 → sProp (MM F)) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ

/-- What the launch element deals device `c`. -/
def G (c : Dev nD) : sProp (MM F) :=
  iprop((bigSep Finset.univ fun k : Fin 11 => roundState ER (Rd m) (kcell (c, k)) 0)
    ∗ (bigSep Finset.univ fun k : Fin 11 => at_ (kcell (c, k)) 0) ∗ minted false c ∗ minted true c)

/-- What the cells' opening makes of it. -/
def G' (c : Dev nD) : sProp (MM F) :=
  iprop(recs m ∗ (cells0 false c ∗ cells0 true c ∗ atPos ER (barCell c) 0 ∅ 0)
    ∗ (reached ER (barCell (up false c)) 0 ∗ reached ER (barCell (up true c)) 0) ∗ (pays false c ∗ pays true c) ∗ locals c)

theorem fund_ring : BI.own (ER (initOf ringCells ringToks)) ⊢ (|==> bigSep Finset.univ (G m) : sProp (MM F)) := by
  have hX (Φ : GSem nD τ sig → sProp (MM F)) : bigSep ringCells Φ = bigSep Finset.univ fun c : Dev nD => bigSep Finset.univ fun k : Fin 11 => Φ (kcell (c, k)) := by
    unfold ringCells; rw [bigSep_map, bigSep_univ_prod]; rfl
  have hT : bigSep ringToks (fun x => (dutyTok ER x.1 x.2.1 x.2.2 : sProp (MM F))) = bigSep Finset.univ fun c : Dev nD => iprop(minted false c ∗ minted true c) := by
    unfold ringToks; rw [bigSep_map, bigSep_univ_prod]
    refine bigSep_congr fun c _ => ?_
    rw [bigSep_univ_prod, bigSep_bool]
    unfold minted
    rw [bigSep_univ_sum, bigSep_univ_sum, bigSep_univ_sum, bigSep_unit, bigSep_univ_sum, bigSep_univ_sum, bigSep_univ_sum, bigSep_unit]
    rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G at_; simp only [bigSep_sep']
  isplitl [Hst']; · iexact Hst'
  isplitl [Hat' Hr']
  · isplitl [Hat'] <;> iassumption
  icases Htok' with ⟨H1, H2⟩
  isplitl [H1] <;> iassumption

theorem sems0_eq (c : Dev nD) : iprop(ownZero c ∗ unscopedSems0 c) ⊢ (iprop((bigSep Finset.univ fun k : Fin 11 => semVal (kcell (c, k)) 0) ∗ locals c) : sProp (MM F)) := by
  rw [unscopedSems0_eq, bigSep_fin11]
  iintro ⟨Ho, HB⟩
  ihave Hx := (ownSems0_eq (F := F) c).1 $$ Ho
  unfold zeroCells zeros
  icases Hx with ⟨⟨⟨H3, H4, H7, H8, H1⟩, H5, H6, H9, H10, H2⟩, HL⟩
  isplitr [HL]
  · isplitl [HB]; · iexact HB
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iexact HL

theorem core_alloc (c : Dev nD) :
    iprop(ownZero c ∗ unscopedSems0 c ∗ G m c)
      ⊢ |={Set.univ}=> iprop((bigSep Finset.univ fun k => iprop(∃ κ : ℕ, cellInv ER (Rd m) κ (kcell (c, k))))
          ∗ (bigSep Finset.univ fun k : Fin 11 => at_ (kcell (c, k)) 0) ∗ (minted false c ∗ minted true c) ∗ locals c) := by
  unfold G
  iintro ⟨Hos, Hus, Hst, Hat, Ht⟩
  ihave Hv := (sems0_eq (F := F) c) $$ [Hos Hus]
  · isplitl [Hos] <;> iassumption
  icases Hv with ⟨Hv, HL⟩
  imod (show iprop((bigSep Finset.univ fun k : Fin 11 => semVal (kcell (c, k)) 0) ∗ bigSep Finset.univ fun k : Fin 11 => roundState ER (Rd m) (kcell (c, k)) 0)
      ⊢ (|={Set.univ}=> bigSep Finset.univ fun k => iprop(∃ κ : ℕ, cellInv ER (Rd m) κ (kcell (c, k))) : sProp (MM F)) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Ht]; · iexact Ht
  iexact HL

/-- What all devices may use: the invariants, and that the barriers' cells are at round 0. -/
def shared : sProp (MM F) := iprop(recs m ∗ bigSep Finset.univ fun c : Dev nD => reached ER (barCell c) 0)

instance shared_persistent : BI.Persistent (shared m) := by unfold shared; infer_instance

theorem bar_reached (c : Dev nD) : (bigSep Finset.univ fun c : Dev nD => (reached ER (barCell c) 0 : sProp (MM F))) ⊢ reached ER (barCell c) 0 :=
  bigSep_elim (Finset.mem_univ c)

/-- What stays with a device. -/
def mine (c : Dev nD) : sProp (MM F) :=
  iprop((cells0 false c ∗ cells0 true c ∗ atPos ER (barCell c) 0 ∅ 0) ∗ (pays false c ∗ pays true c) ∗ locals c)

theorem mine_sort : iprop((bigSep Finset.univ fun c : Dev nD => iprop(cells0 false c ∗ cells0 true c ∗ atPos ER (barCell c) 0 ∅ 0))
      ∗ ((bigSep Finset.univ fun c : Dev nD => pays false c) ∗ bigSep Finset.univ fun c : Dev nD => pays true c)
      ∗ bigSep Finset.univ fun c : Dev nD => locals c) ⊢ (bigSep Finset.univ fun c : Dev nD => mine c : sProp (MM F)) := by
  unfold mine
  simp only [bigSep_sep']
  exact .rfl

theorem mine_intro (c : Dev nD) : iprop(shared m ∗ mine c) ⊢ G' m c := by
  unfold shared mine G'
  iintro ⟨⟨#HI, #HR⟩, HC, HT, HL⟩
  isplitl []; · iexact HI
  isplitl [HC]; · iexact HC
  isplitl []
  · isplitl []
    · iapply (bar_reached (F := F) (up false c)); iexact HR
    · iapply (bar_reached (F := F) (up true c)); iexact HR
  isplitl [HT]; · iexact HT
  iexact HL

/-- A device's positions sorted by direction. -/
theorem cells_sort (c : Dev nD) : (bigSep Finset.univ fun k : Fin 11 => (at_ (kcell (c, k)) 0 : sProp (MM F)))
    ⊢ iprop((cells0 false c ∗ cells0 true c ∗ atPos ER (barCell c) 0 ∅ 0) ∗ reached ER (barCell c) 0) := by
  rw [bigSep_fin11]
  unfold cells0
  iintro ⟨H0, H1, H2, H3, H4, H5, H6, H7, H8, H9, H10⟩
  ihave HB := (show (at_ (kcell (c, 0)) 0 : sProp (MM F)) ⊢ iprop(atPos ER (barCell c) 0 ∅ 0 ∗ reached ER (barCell c) 0) from .rfl) $$ H0
  icases HB with ⟨HB, Hr⟩
  isplitr [Hr]
  · isplitl [H1 H3 H4 H7 H8]
    · isplitl [H3]; · iexact H3
      isplitl [H4]; · iexact H4
      isplitl [H7]; · iexact H7
      isplitl [H8]; · iexact H8
      iexact H1
    isplitl [H2 H5 H6 H9 H10]
    · isplitl [H5]; · iexact H5
      isplitl [H6]; · iexact H6
      isplitl [H9]; · iexact H9
      isplitl [H10]; · iexact H10
      iexact H2
    iexact HB
  · iexact Hr

/-- Something all may use, used by each. -/
theorem bigSep_use {I : Type} [DecidableEq I] {S : Finset I} {R : sProp (MM F)} [BI.Persistent R] {Φ Ψ : I → sProp (MM F)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k : Fin 11 => at_ (kcell (c, k)) 0) ∗ (minted false c ∗ minted true c) ∗ locals c) : sProp (MM F))
      ⊢ bigSep Finset.univ (G' m) := by
  rw [bigSep_sep', bigSep_sep', bigSep_sep', bigSep_sep', ← bigSep_univ_prod (fun ck : Dev nD × Fin 11 => iprop(∃ κ : ℕ, cellInv ER (Rd m) κ (kcell ck)))]
  iintro ⟨HI, Hat, ⟨Ht, Ht'⟩, HL⟩
  ihave HK := (BI.bigSep_exists_pi Finset.univ (fun (ck : Dev nD × Fin 11) (κ : ℕ) => (cellInv ER (Rd m) κ (kcell ck) : sProp (MM F)))) $$ HI
  ihave Htk := (minted_around (F := F) false) $$ Ht
  ihave Htk' := (minted_around (F := F) true) $$ Ht'
  ihave Hat' := (show (bigSep Finset.univ fun c : Dev nD => bigSep Finset.univ fun k : Fin 11 => (at_ (kcell (c, k)) 0 : sProp (MM F)))
      ⊢ iprop((bigSep Finset.univ fun c : Dev nD => iprop(cells0 false c ∗ cells0 true c ∗ atPos ER (barCell c) 0 ∅ 0))
        ∗ bigSep Finset.univ fun c : Dev nD => reached ER (barCell c) 0) from
    (bigSep_mono fun c _ => cells_sort (F := F) c).trans (Entails.of_eq (bigSep_sep' _ _ _))) $$ Hat
  icases Hat' with ⟨Hat', Hr⟩
  iapply (bigSep_use (R := shared m) (Φ := mine) fun c _ => mine_intro m c)
  isplitl [HK Hr]
  · unfold shared recs
    isplitl [HK]; · iexact HK
    iexact Hr
  · iapply (mine_sort (F := F))
    isplitl [Hat']; · iexact Hat'
    isplitl [Htk Htk']
    · isplitl [Htk]; · iexact Htk
      iexact Htk'
    iexact HL

/-- Every device's semaphores opened at once. -/
theorem glob : (bigSep Finset.univ fun c => iprop(ownZero c ∗ unscopedSems0 c ∗ G m c) : sProp (MM F)) ⊢ |={Set.univ}=> bigSep Finset.univ (G' m) :=
  ((bigSep_mono fun c _ => core_alloc m c).trans (bigSep_fupd _ _)).trans (BI.fupd_mono (regroup m))

/-! ## The credits -/

/-- A direction's credits at the launch. -/
def creds0 (d : Bool) (c : Dev nD) : sProp (MM F) :=
  iprop((bigSep (Finset.Ico 0 7) fun s => cred (tallyAt (recvCell d (slotB s) c) s (N d))) ∗ bigSep (Finset.Ico 0 6) fun s => cred (tallyAt (crCell d c) s 1))

theorem cred_up (d : Bool) (sm : SemLoc sig) (s n : ℕ) (c : Dev nD) :
    (Pipeline.launchCred (fun b : Dev nD => tallyAt ((up d b : Thread nD τ), sm) s n) c : sProp (MM F)) ⊢ cred (tallyAt ((c : Thread nD τ), sm) s n) :=
  Pipeline.launchCred_tallyAt sm (up d) (down d) (up_down d) (down_up d) s n c
theorem cred_down (d : Bool) (sm : SemLoc sig) (s n : ℕ) (c : Dev nD) :
    (Pipeline.launchCred (fun b : Dev nD => tallyAt ((down d b : Thread nD τ), sm) s n) c : sProp (MM F)) ⊢ cred (tallyAt ((c : Thread nD τ), sm) s n) :=
  Pipeline.launchCred_tallyAt sm (down d) (up d) (down_up d) (up_down d) s n c

/-- The credits of a step. -/
def credsAt (c : Dev nD) (s : ℕ) : sProp (MM F) :=
  iprop(Pipeline.launchCred (fun b => owedCr b s) c ∗ (cred (tallyAt (recvCell true (slotB s) c) s (N true)) ∗ cred (tallyAt (recvCell false (slotB s) c) s (N false))))

theorem creds_cr (c : Dev nD) (s : ℕ) (hs : s < 6) :
    (Pipeline.launchCred (fun b => owedCr b s) c : sProp (MM F)) ⊢ iprop(cred (tallyAt (crCell true c) s 1) ∗ cred (tallyAt (crCell false c) s 1)) := by
  rw [show (fun b => owedCr b s) = (fun b => tallyAt (crCell true (up true b)) s 1) + fun b => tallyAt (crCell false (up false b)) s 1 from
    funext fun b => if_pos hs]
  exact (Entails.of_eq (Pipeline.launchCred_add _ _ c)).trans (BIClass.sep_mono (cred_up true _ s 1 c) (cred_up false _ s 1 c))

theorem creds_step (c : Dev nD) (s : ℕ) : (Pipeline.launchCred (fun b => owedCr b s + owedRecv b s) c : sProp (MM F)) ⊢ credsAt c s := by
  refine (Entails.of_eq (Pipeline.launchCred_add (fun b => owedCr b s) (fun b => owedRecv b s) c)).trans (sep_mono_right ?_)
  exact (Entails.of_eq (Pipeline.launchCred_add (fun b => tallyAt (recvCell true (slotB s) (down true b)) s (N true)) (fun b => tallyAt (recvCell false (slotB s) (down false b)) s (N false)) c)).trans
    (BIClass.sep_mono (cred_down true _ s _ c) (cred_down false _ s _ c))

theorem creds (c : Dev nD) : (Pipeline.launchCred O₀ c : sProp (MM F)) ⊢ iprop(cred (tallyAt (barCell c) 0 2) ∗ creds0 false c ∗ creds0 true c) := by
  have h : (Pipeline.launchCred O₀ c : sProp (MM F))
      ⊢ iprop((bigSep (Finset.Ico 0 7) (credsAt c) ∗ cred (tallyAt (barCell c) 0 1)) ∗ cred (tallyAt (barCell c) 0 1)) := by
    refine (Entails.of_eq (Pipeline.launchCred_add (fun b => owe b 0 + tallyAt (barCell (up true b)) 0 1) (fun b => tallyAt (barCell (up false b)) 0 1) c)).trans
      (BIClass.sep_mono ((Entails.of_eq (Pipeline.launchCred_add (fun b => owe b 0) (fun b => tallyAt (barCell (up true b)) 0 1) c)).trans (BIClass.sep_mono ?_ (cred_up true _ 0 1 c)))
        (cred_up false _ 0 1 c))
    refine (Entails.of_eq (Pipeline.launchCred_sum (Finset.Ico 0 7) (fun s b => owedCr b s + owedRecv b s) c)).trans (bigSep_mono fun s _ => creds_step c s)
  refine h.trans ?_
  unfold credsAt creds0
  rw [bigSep_sep', bigSep_sep', bigSep_Ico_succ_top (show 0 ≤ 6 by omega) fun s => (Pipeline.launchCred (fun b => owedCr b s) c : sProp (MM F))]
  iintro ⟨⟨⟨⟨-, HC⟩, HT, HF⟩, H1⟩, H2⟩
  ihave HC' := (show (bigSep (Finset.Ico 0 6) fun s => (Pipeline.launchCred (fun b => owedCr b s) c : sProp (MM F)))
      ⊢ iprop((bigSep (Finset.Ico 0 6) fun s => cred (tallyAt (crCell true c) s 1)) ∗ bigSep (Finset.Ico 0 6) fun s => cred (tallyAt (crCell false c) s 1)) from
    (bigSep_mono fun s hs => creds_cr (F := F) c s (Finset.mem_Ico.mp hs).2).trans (Entails.of_eq (bigSep_sep' _ _ _))) $$ HC
  icases HC' with ⟨HCT, HCF⟩
  isplitl [H1 H2]
  · rw [show tallyAt (barCell c) 0 2 = (tallyAt (barCell c) 0 1 + tallyAt (barCell c) 0 1 : CellTallies nD τ sig ℕ) from (tallyAt_add (barCell c) 0 1 1).symm]
    iapply (cred_add _ _).2
    isplitl [H1] <;> iassumption
  isplitl [HF HCF]
  · isplitl [HF] <;> iassumption
  · isplitl [HT] <;> iassumption

/-- A direction's duties together with its credits. -/
theorem toks_intro (d : Bool) (c : Dev nD) : iprop(pays d c ∗ creds0 d c) ⊢ (iprop(dutyTok ER (barCell (up d c)) 0 d ∗ toks0 d c) : sProp (MM F)) := by
  unfold pays creds0 toks0 tok ctok
  rw [bigSep_Ico_of_fin 7 (fun i => dutyTok ER (sendCell d (slotA i) c) (i / 2) false), bigSep_Ico_of_fin 7 (fun i => dutyTok ER (recvCell d (slotB i) (down d c)) (i / 2) false),
    bigSep_Ico_of_fin 6 (fun i => dutyTok ER (crCell d (up d c)) i false), bigSep_sep', bigSep_sep', bigSep_sep']
  iintro ⟨⟨HB, HS, HV, HC⟩, HcV, HcC⟩
  isplitl [HB]; · iexact HB
  isplitl [HS HV HcV]
  · isplitl [HS]; · iexact HS
    isplitl [HV] <;> iassumption
  · isplitl [HC] <;> iassumption

end Cert.KernelIdeal.Ring

end
-- ==== Proof.Launch.lean ====
/- The launch: what each device starts from and ends with, and the run of the whole mesh. -/
module

public import proofs.«01_k».proof.Proof.Ghost
public import Idealize.ShloMosaic.Lib.Pipeline.CollectiveSegs

@[expose] public section

set_option synthInstance.maxSize 4096

noncomputable section

namespace Cert.KernelIdeal.Ring

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

/-! ## What a device starts from and ends with -/

/-- The operands, as launched. -/
def args (c : Dev nD) : sProp (MM F) :=
  iprop((((c : Thread nD τ).loc main_arg0) ↦{fullShare} m ((c : Thread nD τ).loc main_arg0))
    ∗ (((c : Thread nD τ).loc main_arg1) ↦{fullShare} m ((c : Thread nD τ).loc main_arg1)))

/-- The semaphores of the operands' copies. -/
def xwsems (c : Dev nD) : sProp (MM F) :=
  iprop((semVal ((c : Thread nD τ), .dma (xsem 0)) 0 ∗ semVal ((c : Thread nD τ), .dma (xsem 1)) 0)
    ∗ (semVal ((c : Thread nD τ), .dma (wsem 0)) 0 ∗ semVal ((c : Thread nD τ), .dma (wsem 1)) 0))

theorem gear_eq (c : Dev nD) :
    iprop(args m c ∗ ((free c (xslot 0) ∗ free c (xslot 1)) ∗ (free c (wslot 0) ∗ free c (wslot 1))) ∗ xwsems c) ⊣⊢ (gear m c : sProp (MM F)) := by
  unfold args gear xkit kit xq wq xwsems
  constructor
  · iintro ⟨⟨HX, HW⟩, ⟨⟨H1, H2⟩, H3, H4⟩, ⟨H5, H6⟩, H7, H8⟩
    ihave HX' := (shares (F := F) _ _).1 $$ HX
    icases HX' with ⟨HXl, HXr⟩
    ihave HW' := (shares (F := F) _ _).1 $$ HW
    icases HW' with ⟨HWl, HWr⟩
    isplitl [HXl HXr H1 H2 H5 H6]
    · isplitl [HXl]; · iexact HXl
      isplitl [HXr]; · iexact HXr
      isplitl [H1]; · iexact H1
      isplitl [H2]; · iexact H2
      isplitl [H5]; · iexact H5
      iexact H6
    · isplitl [HWl]; · iexact HWl
      isplitl [HWr]; · iexact HWr
      isplitl [H3]; · iexact H3
      isplitl [H4]; · iexact H4
      isplitl [H7]; · iexact H7
      iexact H8
  · iintro ⟨⟨HXl, HXr, H1, H2, H5, H6⟩, HWl, HWr, H3, H4, H7, H8⟩
    isplitl [HXl HXr HWl HWr]
    · isplitl [HXl HXr]
      · iapply (shares (F := F) _ _).2
        isplitl [HXl]; · iexact HXl
        iexact HXr
      · iapply (shares (F := F) _ _).2
        isplitl [HWl]; · iexact HWl
        iexact HWr
    isplitl [H1 H2 H3 H4]
    · isplitl [H1 H2]
      · isplitl [H1]; · iexact H1
        iexact H2
      · isplitl [H3]; · iexact H3
        iexact H4
    · isplitl [H5 H6]
      · isplitl [H5]; · iexact H5
        iexact H6
      · isplitl [H7]; · iexact H7
        iexact H8

/-- What a device starts from, its scratch apart. -/
def start₀ (c : Dev nD) : sProp (MM F) :=
  iprop(G' m c ∗ levAts L lv ∗ (cred (tallyAt (barCell c) 0 2) ∗ creds0 false c ∗ creds0 true c) ∗ args m c
    ∗ ((c : Thread nD τ).loc main_v1) ↦{fullShare} m ((c : Thread nD τ).loc main_v1))
def Φ₀ (c : Dev nD) : sProp (MM F) := iprop(start₀ m c ∗ scratch c)

/-- What it ends with, for good, -/
def Y (c : Dev nD) : sProp (MM F) :=
  iprop(unscopedSems0 c ∗ args m c
    ∗ ∃ f, ⌜IsRes c (final m false c) (final m true c) f⌝ ∗ ((c : Thread nD τ).loc main_v1) ↦{fullShare} f)
/-- and in all. -/
def Φ₁ (c : Dev nD) : sProp (MM F) := iprop(Y m c ∗ ownZero c ∗ scratch c)

theorem ini_intro (c : Dev nD) :
    iprop((bufs false c ∗ bufs true c) ∗ (cells0 false c ∗ cells0 true c ∗ atPos ER (barCell c) 0 ∅ 0)
        ∗ (reached ER (barCell (up false c)) 0 ∗ reached ER (barCell (up true c)) 0) ∗ (pays false c ∗ pays true c)
        ∗ (cred (tallyAt (barCell c) 0 2) ∗ creds0 false c ∗ creds0 true c)) ⊢ (Ini c : sProp (MM F)) := by
  unfold Ini
  iintro ⟨⟨Hb, Hb'⟩, ⟨Hc, Hc', Hat⟩, ⟨Hr, Hr'⟩, ⟨Hp, Hp'⟩, HB, Hk, Hk'⟩
  ihave HT := (toks_intro (F := F) false c) $$ [Hp Hk]
  · isplitl [Hp] <;> iassumption
  icases HT with ⟨Hd, HT⟩
  ihave HT' := (toks_intro (F := F) true c) $$ [Hp' Hk']
  · isplitl [Hp'] <;> iassumption
  icases HT' with ⟨Hd', HT'⟩
  isplitl [Hb Hc HT]
  · isplitl [Hb]; · iexact Hb
    isplitl [Hc]; · iexact Hc
    iexact HT
  isplitl [Hb' Hc' HT']
  · isplitl [Hb']; · iexact Hb'
    isplitl [Hc']; · iexact Hc'
    iexact HT'
  isplitl [Hd Hr]
  · isplitl [Hd]; · iexact Hd
    iexact Hr
  isplitl [Hd' Hr']
  · isplitl [Hd']; · iexact Hd'
    iexact Hr'
  isplitl [HB]; · iexact HB
  iexact Hat

theorem done_elim (c : Dev nD) : Done m c ⊢ (Φ₁ m c : sProp (MM F)) := by
  unfold Done Φ₁ Y
  iintro ⟨⟨Hb, Hz⟩, ⟨Hb', Hz'⟩, HG, HR, HV, HB⟩
  ihave HG' := (gear_eq m c).2 $$ HG
  icases HG' with ⟨HA, ⟨Hx, Hw⟩, HS⟩
  ihave HR' := (out_sew (F := F) c _ _) $$ HR
  isplitl [HB HA HR']
  · isplitl [HB]; · iapply (Entails.of_eq (unscopedSems0_eq (F := F) c).symm); iexact HB
    isplitl [HA]; · iexact HA
    iexact HR'
  isplitl [Hz Hz' HS HV]
  · iapply (ownSems0_eq (F := F) c).2
    unfold zeroCells locals xwsems
    isplitl [Hz Hz']
    · isplitl [Hz] <;> iassumption
    icases HS with ⟨HS, HS'⟩
    isplitl [HS]; · iexact HS
    isplitl [HS']; · iexact HS'
    iexact HV
  · iapply (scratch_cut (F := F) c).2
    unfold slots
    isplitl [Hb]; · iexact Hb
    isplitl [Hb']; · iexact Hb'
    isplitl [Hx]; · iexact Hx
    iexact Hw

theorem lift_deviceId (c : Dev nD) {α : Type} (k : Dev nD → TP F α) (Q : α → sProp (MM F)) : go c (Prog.lift .deviceId >>= k) Q = go c (k c) Q :=
  wp_deviceId (c := (c : Thread nD τ)) 𝒱₀ none Set.univ

/-- The body, from what the device starts from to what it ends with. -/
theorem sound_body (c : Dev nD) : iprop(Φ₀ m c ∗ owing c (O₀ c)) ⊢ go c (body (F := F)) fun _ => iprop(Φ₁ m c ∗ owing c 0) := by
  unfold body
  rw [lift_deviceId]
  unfold Φ₀ start₀ G' locals
  iintro ⟨⟨⟨⟨#HI, HC, HR, HT, Hx, Hw, Ho⟩, #Hl, Hk, HA, Hv⟩, HS⟩, HO⟩
  ihave HS' := (scratch_cut (F := F) c).1 $$ HS
  unfold slots
  icases HS' with ⟨Hb, Hb', Hxs, Hws⟩
  iapply (run_run m c)
  isplitl []; · iexact HI
  isplitl []; · iexact Hl
  isplitl [Hb Hb' HC HR HT Hk]
  · iapply (ini_intro (F := F) c)
    isplitl [Hb Hb']
    · isplitl [Hb] <;> iassumption
    isplitl [HC]; · iexact HC
    isplitl [HR]; · iexact HR
    isplitl [HT]; · iexact HT
    iexact Hk
  isplitl [HA Hxs Hws Hx Hw]
  · iapply (gear_eq m c).1
    isplitl [HA]; · iexact HA
    isplitl [Hxs Hws]
    · isplitl [Hxs] <;> iassumption
    · unfold xwsems
      isplitl [Hx] <;> iassumption
  isplitl [Hv]; · iapply (out_cut (F := F) c _); iexact Hv
  isplitl [Ho]; · iexact Ho
  isplitl [HO]; · iexact HO
  iintro ⟨HD, HO⟩
  isplitl [HD]; · iapply (done_elim m c); iexact HD
  iexact HO

/-! ## The launch -/

/-- The proof data: no windows; one point, which pays everything the device owes. -/
def dats (p : Fin 1) (c : Dev nD) : Pipeline.Dat τ (Elt F) ℕ ℕ UU ℕ (cfgs p) c :=
  match p with
  | 0 =>
    { A := fun w => w.elim0
      after := fun w => w.elim0
      Φ := fun t => if t.val = 0 then Φ₀ m c else Φ₁ m c
      q := fun w => w.elim0
      owed := fun t => if t.val = 0 then O₀ c else 0 }

set_option maxRecDepth 1000000 in
theorem body_obligation (c : Dev nD) : Pipeline.BodyObligation (dats (F := F) m 0 c) (defs₀ (F := F)) 𝒱₀ (0 : ℕ) Set.univ := fun t => by
  rw [fin_N0 t]
  show iprop(Φ₀ m c ∗ (dats m 0 c).owesAt 0 t0_0.castSucc ∗ bigSep Finset.univ _) ⊢ go c (bodyAt0 (F := F) t0_0)
    fun _ => iprop(Φ₁ m c ∗ (dats m 0 c).owesAt 0 t0_0.succ ∗ bigSep Finset.univ _)
  rw [body_eq]
  refine BIBase.Entails.trans ?_ ((sound_body m c).trans (wp_mono _ _ _ fun a => ?_))
  · unfold Pipeline.Dat.owesAt Pipeline.owesWithin owing
    iintro ⟨HΦ, ⟨%W, -, HO⟩, -⟩
    isplitl [HΦ]; · iexact HΦ
    iexists W
    iexact HO
  · unfold Pipeline.Dat.owesAt Pipeline.owesWithin owing
    iintro ⟨HΦ, %W, HO⟩
    isplitl [HΦ]; · iexact HΦ
    isplitl [HO]
    · iexists W
      isplitr
      · ipureintro; exact fun _ _ => Or.inl trivial
      · iexact HO
    · rw [show (Finset.univ : Finset (Fin cfg0.W)) = ∅ from rfl, bigSep_empty]
      iempintro

abbrev EP : Emb (UR sig nD τ) (MM F) := embL

def u₀ : UU :=
  (initOf (Pipeline.cells cfgs cellOf_inj) (Pipeline.launchToks cfgs cellOf_inj), (initOf ringCells ringToks, (1 : Counters)))

theorem ownU_split (a : UR sig nD τ) (b : UB) : (ownU ((a, (b, 1)) : UU) : sProp (MM F)) ⊢ iprop(BI.own (EP a) ∗ BI.own (ER b)) :=
  BI.own_op_elim ((uEmb (nD := nD) (sig := sig) (Ix := ℕ) (Val := Elt F) (Name := ℕ) (U := UU) (Lvl := ℕ)).toEmb.op_of_mem
    (Prod.mk_mem_op (URA.mem_op_one a) (URA.mem_one_op (b, (1 : Counters)))))

theorem hu₀ : (ownU u₀ : sProp (MM F))
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_split (F := F) _ _) $$ Hu
  icases H with ⟨HP, HX⟩
  imod (fund_ring m) $$ HX with HG
  imodintro
  isplitl [HP] <;> iassumption

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start₀ m c ∗ emp) := by
  rw [Pipeline.unscopedRestP_none, unscopedRest0_eq]
  iintro ⟨⟨HX, HW, HV⟩, Hlev, Hcr, -, HG⟩
  ihave Hc := (creds (F := F) c) $$ Hcr
  imodintro
  unfold start₀ args
  isplitl
  · isplitl [HG]; · iexact HG
    isplitl [Hlev]; · iexact Hlev
    isplitl [Hc]; · iexact Hc
    isplitl [HX HW]
    · isplitl [HX] <;> iassumption
    iexact HV
  · iempintro

theorem phi0_intro (c : Dev nD) :
    iprop(start₀ m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop(Y m c ∗ ownZero c ∗ Pipeline.scopedRest cfg0.spec c) := by
  rw [show (dats m 0 c).Φ (Fin.last cfg0.N) = Φ₁ m c from rfl, scopedRest0_eq]
  exact .rfl

theorem waits (c : Dev nD) : (levAts L lv : sProp (MM F)) ⊢ Pipeline.cellsWaits cfgs (dats m) 0 0 c :=
  Pipeline.cellsWaits_intro cfgs (dats m) 0 0 c fun w s t => w.elim0

/-! ## The run -/

/-- What a device's memory holds at the end. -/
def End (c : Dev nD) (s : MemSt nD τ sig (Elt F)) : Prop :=
  IsRes c (final m false c) (final m true c) (s.mem ((c : Thread nD τ).loc main_v1))
    ∧ s.mem ((c : Thread nD τ).loc main_arg0) = m ((c : Thread nD τ).loc main_arg0)
    ∧ s.mem ((c : Thread nD τ).loc main_arg1) = m ((c : Thread nD τ).loc main_arg1)

/-- A whole buffer's contents are the memory's. -/
theorem mem_read (ℓ : Loc nD τ sig) (f : Buf (Elt F) ℓ) (s : Phys nD τ sig (Elt F)) :
    iprop(SI s ∗ ℓ ↦{fullShare} f) ⊢ (⌜s.mem.mem ℓ = f⌝ : sProp (MM F)) :=
  SI_pointsTo_agree.trans (BI.pure_mono fun h => funext fun i => h i (Finset.mem_univ i))

theorem end_read (c : Dev nD) (s : Phys nD τ sig (Elt F)) : iprop(Y m c ∗ emp ∗ SI s)
    ⊢ |={Set.univ}=> iprop(⌜(∀ sm : SemLoc sig, sm.isScoped .tc = false → s.mem.sem ((c : Thread nD τ), sm) = 0) ∧ End m c s.mem⌝ ∗ SI s) := by
  unfold Y args
  iintro ⟨⟨Hu, ⟨HX, HW⟩, %f, %hf, HV⟩, -, HSI⟩
  ihave %hX := (mem_read (F := F) _ _ s) $$ [HSI HX]
  · isplitl [HSI] <;> iassumption
  ihave %hW := (mem_read (F := F) _ _ s) $$ [HSI HW]
  · isplitl [HSI] <;> iassumption
  ihave %hV := (mem_read (F := F) _ _ s) $$ [HSI HV]
  · isplitl [HSI] <;> iassumption
  imod (Pipeline.unscopedSems0_read (X := unscopedSems0 c) (c := c) fupd_intro s) $$ [Hu HSI] with ⟨%hu, HSI⟩
  · isplitl [Hu] <;> iassumption
  imodintro
  isplitr
  · ipureintro; exact ⟨hu, by rw [hV]; exact hf, hX, hW⟩
  · iexact HSI

set_option maxRecDepth 1000000 in
/-- On the eight devices, from any memory with the counters at zero, for any float values: every weakly fair execution
    ends, each device's result at the computed contents, its operands as they were, every counter at zero. -/
theorem run_main : θ_run defs (onTc (τ := τ) (main (F := F))) ⟨m, fun _ => 0, ρ⟩
    (fun r => (∀ c, End m c r.2) ∧ r.2.sem = fun _ => 0) :=
  Pipeline.θ_run_region_owing_glob_pf (fun p => (cfgs p).toPCfg) (fun p => (cfgs p).toPCfg_adm) (dats m) (0 : ℕ) cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := hu₀ m)
    (hglob := glob m)
    (hA := fun _ w => w.elim0) (hpf := fun _ k => k.elim0)
    (X := start₀ m) (Y := Y m) (Z := fun _ => iprop(emp))
    (hX := start_intro m ρ) (hin := phi0_intro m) (hout := phi1_exit m)
    (QY := fun c s => (∀ sm : SemLoc sig, sm.isScoped .tc = false → s.sem ((c : Thread nD τ), sm) = 0) ∧ End m c s)
    (hY := end_read m)
    (hQ := fun _ h hs => ⟨fun c => (h c).2.2.2, sem_eq_zero hs fun c => (h c).2.2.1⟩)

end Cert.KernelIdeal.Ring

end
-- ==== Proof.Frames.lean ====
/- The frames: the kernel's, at both float instances, from the run of the whole mesh; the references', from their runs. -/
module

public import proofs.«01_k».proof.Defs
public import proofs.«01_k».proof.Proof.Launch
public import proofs.«01_k».proof.Proof.Gen.Kernel
public import proofs.«01_k».proof.Proof.Gen.ReferenceIdeal.Run
public import proofs.«01_k».proof.Proof.Gen.SiluIdeal.Run
public import proofs.«01_k».proof.Proof.Gen.Pre_small_KernelIdeal
public import proofs.«01_k».proof.Proof.Gen.Pre_small_ReferenceIdeal
public import Idealize.ShloMosaic.Lib.Quiescent

@[expose] public section

set_option maxRecDepth 1000000

noncomputable section

namespace Cert.Frames

open Idealize.ShloMosaic Idealize.SL.Sem

/-- The printed kernel and its idealization are the same text: the run at the bits is the one run's instance. -/
theorem kernel : Cert.quiescent_Kernel := fun m ρ _ =>
  (θ_run Cert.KernelIdeal.defs _ _).mono (fun _ h => ⟨fun c => (h.1 c).2, h.2⟩) (Cert.KernelIdeal.Ring.run_main (F := Bits) m ρ)

theorem kernelIdeal : Cert.quiescent_KernelIdeal := fun m ρ _ =>
  (θ_run Cert.KernelIdeal.defs _ _).mono (fun _ h => ⟨fun c => (h.1 c).2, h.2⟩) (Cert.KernelIdeal.Ring.run_main (F := Ideal) m ρ)

theorem kernelIdeal_small : Cert.quiescent_KernelIdeal_pre_small_KernelIdeal := fun m ρ _ => kernelIdeal m ρ trivial

theorem reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem reference_small : Cert.quiescent_ReferenceIdeal_pre_small_ReferenceIdeal := fun m ρ _ => reference m ρ trivial

theorem silu : Cert.quiescent_SiluIdeal := fun m ρ _ =>
  (θ_run Cert.SiluIdeal.defs _ _).mono (fun r h => ⟨fun c => (h c).2, sem_eq_zero_of_no_sems (by decide) r.2⟩)
    (Cert.SiluIdeal.Value.run (F := Ideal) m ρ)

end Cert.Frames

end
-- ==== Proof.Silu.lean ====
/- The epilogue at the extended reals, one number at a time: a product with the reciprocal of `1 + exp (−y)` is the
   quotient by it, at every extended real; and a number that lies between −60 and 60 is its own clip. -/
module

public import Idealize.ShloMosaic.Lib.IdealHost

@[expose] public section

noncomputable section

namespace Cert.Silu

open Idealize.ShloMosaic
open scoped BigOperators

/-- The epilogue, as the references write it. -/
def silu (y : EReal) : EReal := Ideal.div y (1 + Ideal.exp (-y))

/-- The exponential is not negative. -/
theorem exp_nonneg (y : EReal) : 0 ≤ Ideal.exp y := by
  induction y with
  | bot => exact le_refl _
  | top => exact le_top
  | coe r => exact EReal.coe_nonneg.mpr (Real.exp_pos r).le

/-- The epilogue's divisor is not zero. -/
theorem one_add_exp_ne_zero (y : EReal) : 1 + Ideal.exp y ≠ 0 := by
  have h1 : (1 : EReal) ≤ 1 + Ideal.exp y := le_add_of_nonneg_right (exp_nonneg y)
  intro e; rw [e] at h1; exact absurd h1 (by simp)

/-- As the kernel writes it: times the reciprocal, the sign changed by a difference from zero. -/
theorem mul_recip (y : EReal) : y * Ideal.div 1 (1 + Ideal.exp (0 - y)) = silu y := by
  rw [zero_sub, Ideal.mul_one_div (one_add_exp_ne_zero _)]; rfl

/-! ## The clip -/

theorem ofBits_sixty : Ideal.ofBits .f32 0x42700000#32 = ((60 : ℝ) : EReal) := by
  simp [Ideal.ofBits, Ideal.ieee]; norm_num; rw [← EReal.coe_mul]; norm_num
theorem ofBits_neg_sixty : Ideal.ofBits .f32 0xC2700000#32 = ((-60 : ℝ) : EReal) := by
  simp [Ideal.ofBits, Ideal.ieee]; norm_num; rw [← EReal.coe_mul]; norm_num
theorem ofBits_bound : Ideal.ofBits .f32 0x40F00000#32 = ((15 / 2 : ℝ) : EReal) := by
  simp [Ideal.ofBits, Ideal.ieee]; norm_num; rw [← EReal.coe_mul]; norm_num

/-- Eight numbers of magnitude at most 7.5 add up to at most 60; -/
theorem sum_le_sixty (p : Fin 8 → EReal) (h : ∀ c, p c ≤ ((15 / 2 : ℝ) : EReal)) : ∑ c, p c ≤ ((60 : ℝ) : EReal) := by
  refine (Finset.sum_le_sum fun c _ => h c).trans ?_
  rw [Fin.sum_univ_eight]
  simp only [← EReal.coe_add]
  exact EReal.coe_le_coe_iff.mpr (by norm_num)

/-- and to at least −60. -/
theorem neg_sixty_le_sum (p : Fin 8 → EReal) (h : ∀ c, -(p c) ≤ ((15 / 2 : ℝ) : EReal)) : ((-60 : ℝ) : EReal) ≤ ∑ c, p c := by
  refine le_trans ?_ (Finset.sum_le_sum fun c _ => EReal.neg_le.mp (h c))
  rw [Fin.sum_univ_eight]
  simp only [← EReal.coe_neg, ← EReal.coe_add]
  exact EReal.coe_le_coe_iff.mpr (by norm_num)

/-- Such a sum is its own clip. -/
theorem clip_sum (p : Fin 8 → EReal) (h : ∀ c, max (p c) (-(p c)) ≤ ((15 / 2 : ℝ) : EReal)) :
    min ((60 : ℝ) : EReal) (max ((-60 : ℝ) : EReal) (∑ c, p c)) = ∑ c, p c := by
  rw [max_eq_right (neg_sixty_le_sum p fun c => (le_max_right _ _).trans (h c)),
    min_eq_right (sum_le_sixty p fun c => (le_max_left _ _).trans (h c))]

/-- The epilogue of a clipped sum of small numbers. -/
theorem silu_clip (p : Fin 8 → EReal) (h : ∀ c, max (p c) (-(p c)) ≤ ((15 / 2 : ℝ) : EReal)) :
    Ideal.div (∑ c, p c) (1 + Ideal.exp (-(min ((60 : ℝ) : EReal) (max ((-60 : ℝ) : EReal) (∑ c, p c))))) = silu (∑ c, p c) := by
  rw [clip_sum p h]; rfl

end Cert.Silu

end
-- ==== Proof.RingSum.lean ====
/- What the ring computes, at the extended reals: the sums a device sends are sums of the devices' partial products of
   one block of rows, and the result is the epilogue of the sum over all eight devices. -/
module

public import proofs.«01_k».proof.Proof.Sched
public import proofs.«01_k».proof.Proof.Silu
public import Idealize.ShloMosaic.Lib.MatmulPlain
public import Idealize.ShloMosaic.Lib.ValueIdx
public import Idealize.ShloMosaic.Lib.ValueLayout
public import Idealize.ShloMosaic.Lib.Pipeline.Value

@[expose] public section

noncomputable section

namespace Cert.KernelIdeal.Ring

open Cert.KernelIdeal.Gen
open Idealize.ShloMosaic Idealize.ShloMosaic.TcCoe
open Idealize.ShloMosaic.ValueIdx
open scoped BigOperators

/-! ## One product -/

/-- A cast undoes the reading through a slot. -/
theorem shapeCast_unsq {s t : Shape} {α : Type} (h : t.numel = s.numel) (X : t.Idx → α) (h' : s.ShapeCasts t) :
    shapeCast t (unsq h X) h' = X := by
  funext j; exact congrArg X (Equiv.symm_apply_apply _ _)

theorem dot_eq : dot_S512x512_S512x1024_S512x1024_1_0_0_1_n_n = DotDims.plain 512 512 1024 := rfl

/-- The product of a chunk and a column tile at an index. -/
theorem tileDot_apply (X : S512x512.Idx → EReal) (V : S512x1024.Idx → EReal) (a : Fin 512) (b : Fin 1024) :
    tileDot (F := Ideal) (xval X) (wval V) (ix2 a b) = ∑ k : Fin 512, X (ix2 a k) * V (ix2 k b) := by
  show shapeCast S512x1024 (FloatOps.matmul (F := Ideal) dot_S512x512_S512x1024_S512x1024_1_0_0_1_n_n none
    (shapeCast S512x512 (unsq _ X) _) (shapeCast S512x1024 (unsq _ V) _) (constant S512x1024 .f32 0x00000000#32)) _ (ix2 a b) = _
  rw [shapeCast_unsq, shapeCast_unsq, shapeCast_self, dot_eq, Ideal.matmul_plain_apply]
  rw [constant_apply, Ideal.ofBits_zero_f32, zero_add]

/-- The product of two operands at a row and a column. -/
def prod (X : S4096x512.Idx → EReal) (W : S512x8192.Idx → EReal) (r : Fin 4096) (j : Fin 8192) : EReal :=
  ∑ k : Fin 512, X (ix2 r k) * W (ix2 k j)

/-- Row `a` of the rows' block `K`, modulo the eight blocks; column `b` of a direction's half. -/
def rowAt (K : ℕ) (a : Fin 512) : Fin 4096 := ⟨512 * (K % 8) + a.val, by have := a.isLt; omega⟩
def colAt : Bool → Fin 4096 → Fin 8192
  | false, b => ⟨0 + b.val, by have := b.isLt; omega⟩
  | true, b => ⟨4096 + b.val, by have := b.isLt; omega⟩

theorem rowAt_congr {K K' : ℕ} (h : K % 8 = K' % 8) (a : Fin 512) : rowAt K a = rowAt K' a := by
  apply Fin.ext; show 512 * (K % 8) + a.val = 512 * (K' % 8) + a.val; rw [h]

theorem halfOf_apply (c : Dev nD) (off : Fin 2 → ℕ) (h : ∀ a, off a + S512x512.size a ≤ S4096x512.size a)
    (X : Buf (Elt Ideal) (mX.view.loc (c : Thread nD τ))) (W : Buf (Elt Ideal) (mW.view.loc (c : Thread nD τ)))
    (o : ℕ) (ho : o + 4096 ≤ 8192) (K : ℕ) (hoff : off = ![512 * (K % 8), 0]) (a : Fin 512) (b : Fin 4096) :
    halfOf (F := Ideal) c (chunk c off h X) W o ho (ix2 a b)
      = prod X W (rowAt K a) ⟨o + b.val, by have := b.isLt; omega⟩ := by
  subst hoff
  have hb : b.val < 4096 := b.isLt
  have e : (Shape.pair (d := ![512, 1024]) a (⟨b.val % 1024, Nat.mod_lt _ (by decide)⟩ : Fin 1024)) = (ix2 a (⟨b.val % 1024, Nat.mod_lt _ (by decide)⟩ : Fin 1024) : S512x1024.Idx) := by
    funext x; fin_cases x <;> rfl
  show tileDot (F := Ideal) (xval (chunk c _ h X)) (wval (wtile c (o + 1024 * (b.val / 1024)) _ W))
    (Shape.pair (d := ![512, 1024]) a (⟨b.val % 1024, Nat.mod_lt _ (by decide)⟩ : Fin 1024)) = _
  rw [e, tileDot_apply]
  unfold prod
  refine Finset.sum_congr rfl fun k _ => ?_
  refine congrArg₂ (· * ·) (congrArg X ?_) (congrArg W ?_)
  · funext x; apply Fin.ext
    fin_cases x
    · show 512 * (K % 8) + 1 * a.val = 512 * (K % 8) + a.val; omega
    · show 0 + 1 * k.val = k.val; omega
  · funext x; apply Fin.ext
    fin_cases x
    · show 0 + 1 * k.val = k.val; omega
    · show o + 1024 * (b.val / 1024) + 1 * (b.val % 1024) = o + b.val; omega

/-! ## One combination -/

/-- A row's place in its tile, without the leading axis. -/
def inRows (i : S512x4096.Idx) : S128x4096.Idx := fun a => inTile i a.succ

theorem cast_at (v : S128x4096.Idx → EReal) (h : S128x4096.ShapeCasts S1x128x4096) (i : S512x4096.Idx) :
    shapeCast S1x128x4096 v h (inTile i) = v (inRows i) := shapeCast_addUnit_apply _ v h (inTile i)

theorem rowRect_at (i : S512x4096.Idx) : (rowRect (tileOf i)).emb (inRows i) = i := by
  funext x; apply Fin.ext
  have h0 : (i 0).val < 512 := (i 0).isLt
  fin_cases x
  · show (i 0).val / 128 * 128 + 1 * ((i 0).val % 128) = (i 0).val; omega
  · show 0 + 1 * (i 1).val = (i 1).val; omega

theorem rows_add (C P : S512x4096.Idx → EReal) (i : S512x4096.Idx) :
    addf (F := Ideal) (φ := .f32) (shapeCast S128x4096 (rows3 (F := Ideal) (tileOf i) C) shapeCasts_S1x128x4096_S128x4096) (rows2 (F := Ideal) (tileOf i) P) (inRows i)
      = C i + P i := by
  rw [addf_apply]
  refine congrArg₂ (· + ·) ?_ ?_
  · rw [shapeCast_dropUnit_apply]
    refine congrArg C ?_
    refine Eq.trans (congrArg (rowIdx (tileOf i)) ?_) (rowIdx_inTile i)
    funext x; fin_cases x <;> rfl
  · exact congrArg P (rowRect_at i)

theorem comb_add (C P : S512x4096.Idx → EReal) (i : S512x4096.Idx) : comb (F := Ideal) tileAdd C P i = C i + P i := by
  show shapeCast S1x128x4096 (addf (F := Ideal) (φ := .f32) (shapeCast S128x4096 (rows3 (F := Ideal) (tileOf i) C) _) (rows2 (F := Ideal) (tileOf i) P)) _ (inTile i) = _
  rw [cast_at, rows_add]

theorem comb_silu (C P : S512x4096.Idx → EReal) (i : S512x4096.Idx) : comb (F := Ideal) tileSilu C P i = Silu.silu (C i + P i) := by
  show k0_pay148 (F := Ideal) (rows3 (F := Ideal) (tileOf i) C) (rows2 (F := Ideal) (tileOf i) P) (inTile i) = _
  unfold k0_pay148
  rw [cast_at, ← rows_add C P i, ← Silu.mul_recip]
  simp only [mulf_apply, divf_apply]
  refine congrArg₂ (· * ·) rfl (congrArg₂ Ideal.div ?_ ?_)
  · exact Ideal.ofBits_one_f32
  · rw [addf_apply]
    refine congrArg₂ (· + ·) Ideal.ofBits_one_f32 ?_
    show Ideal.exp (Ideal.ofBits .f32 0x00000000#32 - _) = _
    rw [Ideal.ofBits_zero_f32]

/-! ## The ring -/

variable (m : (ℓ : Loc nD τ sig) → Buf (Elt Ideal) ℓ)

/-- A device's partial product of the whole matrices. -/
def partialAt (c : Dev nD) (r : Fin 4096) (j : Fin 8192) : EReal := prod (argX m c) (argW m c) r j

/-- The block of rows whose sums device `c` sends at step `s`, modulo eight. -/
def blk : Bool → ℕ → Dev nD → ℕ
  | false, s, c => c.val + 15 - s
  | true, s, c => c.val + 1 + s

theorem blk_up (d : Bool) (s : ℕ) (hs : s ≤ 6) (c : Dev nD) : blk d s (up d c) % 8 = blk d (s + 1) c % 8 := by
  have hc : c.val < 8 := c.isLt
  cases d
  · show ((prv c).val + 15 - s) % 8 = (c.val + 15 - (s + 1)) % 8
    rw [prv_eq]; show ((c.val + 7) % 8 + 15 - s) % 8 = _; omega
  · show ((nxt c).val + 1 + s) % 8 = (c.val + 1 + (s + 1)) % 8
    rw [nxt_eq]; show ((c.val + 1) % 8 + 1 + s) % 8 = _; omega

theorem part0_apply (d : Bool) (c : Dev nD) (a : Fin 512) (b : Fin 4096) :
    part0 m d c (ix2 a b) = partialAt m c (rowAt (blk d 0 c) a) (colAt d b) := by
  have hc : c.val < 8 := c.isLt
  cases d
  · refine halfOf_apply c _ _ (argX m c) (argW m c) 0 (by omega) (c.val + 15 - 0) ?_ a b
    rw [k0_off1_eq]; congr 2; omega
  · refine halfOf_apply c _ _ (argX m c) (argW m c) 4096 (by omega) (c.val + 1 + 0) ?_ a b
    rw [k0_off2_eq]

theorem partS_apply (d : Bool) (c : Dev nD) (s : Fin 7) (a : Fin 512) (b : Fin 4096) :
    partS m d c s (ix2 a b) = partialAt m c (rowAt (blk d (s.val + 1) c) a) (colAt d b) := by
  have hc : c.val < 8 := c.isLt
  have hs : s.val < 7 := s.isLt
  cases d
  · refine halfOf_apply c _ _ (argX m c) (argW m c) 0 (by omega) (c.val + 15 - (s.val + 1)) ?_ a b
    refine (k0_off3_eq c s).trans ?_; congr 2; omega
  · refine halfOf_apply c _ _ (argX m c) (argW m c) 4096 (by omega) (c.val + 1 + (s.val + 1)) ?_ a b
    refine (k0_off4_eq c s).trans ?_; congr 3; omega

/-- The sums sent at step `s` add up the partial products of the sender and of the `s` devices before it. -/
theorem A_apply (d : Bool) (s : ℕ) (hs : s ≤ 6) (c : Dev nD) (a : Fin 512) (b : Fin 4096) :
    A m d s c (ix2 a b) = ∑ u ∈ Finset.range (s + 1), partialAt m ((up d)^[u] c) (rowAt (blk d s c) a) (colAt d b) := by
  induction s generalizing c with
  | zero => rw [Finset.sum_range_one]; exact part0_apply m d c a b
  | succ s ih =>
    show comb (F := Ideal) tileAdd (A m d s (up d c)) (partS m d c (Fin.ofNat 7 s)) (ix2 a b) = _
    have e : (Fin.ofNat 7 s).val = s := Nat.mod_eq_of_lt (by omega)
    rw [comb_add, ih (by omega), partS_apply, e, Finset.sum_range_succ' _ (s + 1), rowAt_congr (blk_up d s (by omega) c)]
    rfl

/-- Going round the ring from `c` meets every device once. -/
theorem up_iter (d : Bool) (c : Dev nD) (u : ℕ) : ((up d)^[u] c).val = (match d with | false => c.val + 7 * u | true => c.val + u) % 8 := by
  have hc : c.val < 8 := c.isLt
  induction u generalizing c with
  | zero => cases d <;> exact (Nat.mod_eq_of_lt hc).symm
  | succ u ih =>
    rw [Function.iterate_succ_apply, ih _ (up d c).isLt]
    cases d
    · show ((prv c).val + 7 * u) % 8 = (c.val + 7 * (u + 1)) % 8
      rw [prv_eq]; show ((c.val + 7) % 8 + 7 * u) % 8 = _; omega
    · show ((nxt c).val + u) % 8 = (c.val + (u + 1)) % 8
      rw [nxt_eq]; show ((c.val + 1) % 8 + u) % 8 = _; omega

theorem round_sum (d : Bool) (c : Dev nD) (g : Dev nD → EReal) : ∑ u ∈ Finset.range 8, g ((up d)^[u] c) = ∑ e : Dev nD, g e := by
  rw [← Fin.sum_univ_eq_sum_range (fun u => g ((up d)^[u] c)) 8]
  refine Fintype.sum_bijective (fun u : Fin 8 => (up d)^[u.val] c) ?_ _ _ fun _ => rfl
  refine (Finite.injective_iff_bijective (α := Fin 8)).mp fun u v h => ?_
  have h := congrArg Fin.val h
  have hu := u.isLt; have hv := v.isLt
  apply Fin.ext
  rw [up_iter, up_iter] at h
  cases d <;> (dsimp only at h; omega)

/-- A device's half of the result: the epilogue of the sum of all devices' partial products of its block of rows. -/
theorem final_apply (d : Bool) (c : Dev nD) (a : Fin 512) (b : Fin 4096) :
    final m d c (ix2 a b) = Silu.silu (∑ e : Dev nD, partialAt m e (rowAt c.val a) (colAt d b)) := by
  have hc : c.val < 8 := c.isLt
  show comb (F := Ideal) tileSilu (A m d 6 (up d c)) (partS m d c 6) (ix2 a b) = _
  rw [comb_silu, A_apply m d 6 (le_refl _), partS_apply, ← round_sum d c, Finset.sum_range_succ' _ 7, rowAt_congr (blk_up d 6 (le_refl _) c)]
  have e : rowAt (blk d (6 + 1) c) a = rowAt c.val a := rowAt_congr (by cases d; exacts [(show (c.val + 15 - (6 + 1)) % 8 = c.val % 8 by omega), (show (c.val + 1 + (6 + 1)) % 8 = c.val % 8 by omega)]) a
  have e' : rowAt (blk d ((6 : Fin 7).val + 1) c) a = rowAt c.val a := e
  rw [e, e']
  rfl

end Cert.KernelIdeal.Ring

end
-- ==== Proof.Value.lean ====
/- The value of the kernel's result: each device's rows of the epilogue of the whole product, and how the product of the
   whole matrices is the sum of the devices' partial products. -/
module

public import proofs.«01_k».proof.Proof.Launch
public import proofs.«01_k».proof.Proof.RingSum
public import Idealize.ShloMosaic.Lib.Layout

@[expose] public section

noncomputable section

namespace Cert.KernelIdeal.Ring

open Cert.KernelIdeal.Gen
open Idealize.ShloMosaic Idealize.ShloMosaic.TcCoe
open Idealize.ShloMosaic.ValueIdx
open scoped BigOperators

variable (m : (ℓ : Loc nD τ sig) → Buf (Elt Ideal) ℓ)

/-- The sum of all devices' partial products at a row and a column of the whole. -/
def total (r : Fin 4096) (j : Fin 8192) : EReal := ∑ e : Dev nD, partialAt m e r j

/-- A device's result, read at a row and a column: the epilogue of the sum at the row of its block. -/
theorem result_apply (c : Dev nD) (f : Buf (Elt Ideal) ((c : Thread nD τ).loc main_v1)) (h : IsRes c (final m false c) (final m true c) f)
    (a : Fin 512) (j : Fin 8192) : (f : S512x8192.Idx → EReal) (ix2 a j) = Silu.silu (total m (rowAt c.val a) j) := by
  have hj := j.isLt
  by_cases hlt : j.val < 4096
  · have e := (congrFun h.1 (ix2 a (⟨j.val, hlt⟩ : Fin 4096))).trans (final_apply m false c a ⟨j.val, hlt⟩)
    have ej : colAt false ⟨j.val, hlt⟩ = j := Fin.ext (by show 0 + j.val = j.val; omega)
    rw [ej] at e
    refine Eq.trans (congrArg (f : S512x8192.Idx → EReal) ?_) e
    funext x; apply Fin.ext
    fin_cases x
    · show a.val = 0 + 1 * a.val; omega
    · show j.val = 0 + 1 * j.val; omega
  · have e := (congrFun h.2 (ix2 a (⟨j.val - 4096, by omega⟩ : Fin 4096))).trans (final_apply m true c a ⟨j.val - 4096, by omega⟩)
    have ej : colAt true ⟨j.val - 4096, by omega⟩ = j := Fin.ext (by show 4096 + (j.val - 4096) = j.val; omega)
    rw [ej] at e
    refine Eq.trans (congrArg (f : S512x8192.Idx → EReal) ?_) e
    funext x; apply Fin.ext
    fin_cases x
    · show a.val = 0 + 1 * a.val; omega
    · show j.val = 4096 + 1 * (j.val - 4096); omega

/-- The whole result: the epilogue of the sums. -/
def whole : (⟨2, ![4096, 8192]⟩ : Shape).Idx → EReal := fun i => Silu.silu (total m (i 0) (i 1))

/-- A device's result is its block of rows of the whole. -/
theorem result_block (c : Dev nD) (f : Buf (Elt Ideal) ((c : Thread nD τ).loc main_v1)) (h : IsRes c (final m false c) (final m true c) f) :
    (f : S512x8192.Idx → EReal) = Layout.block ⟨2, ![512, 8192]⟩ ⟨2, ![4096, 8192]⟩ 0 8 c (whole m) := by
  have hc : c.val < 8 := c.isLt
  funext i
  obtain ⟨a, j, rfl⟩ : ∃ (a : Fin 512) (j : Fin 8192), i = ix2 a j := ⟨i 0, i 1, eq_ix2 i⟩
  rw [result_apply m c f h, Layout.block_apply]
  show _ = Silu.silu (total m _ _)
  refine congrArg Silu.silu (congrArg₂ (total m) ?_ ?_)
  · apply Fin.ext; show 512 * (c.val % 8) + a.val = c.val * 512 + a.val; omega
  · apply Fin.ext; rfl

/-! ## The whole product -/

/-- The product of the whole matrices at a row and a column. -/
def wholeProd (X : (⟨2, ![4096, 4096]⟩ : Shape).Idx → EReal) (W : (⟨2, ![4096, 8192]⟩ : Shape).Idx → EReal) (r : Fin 4096) (j : Fin 8192) : EReal :=
  ∑ k : Fin 4096, X (ix2 r k) * W (ix2 k j)

/-- A sum over 4096 terms, in eight runs of 512. -/
theorem sum_runs (g : Fin 4096 → EReal) : ∑ k : Fin 4096, g k = ∑ e : Fin 8, ∑ k : Fin 512, g ⟨e.val * 512 + k.val, by have := e.isLt; have := k.isLt; omega⟩ := by
  rw [← Fintype.sum_prod_type' (fun (e : Fin 8) (k : Fin 512) => g ⟨e.val * 512 + k.val, by have := e.isLt; have := k.isLt; omega⟩)]
  refine (Fintype.sum_equiv (finProdFinEquiv (m := 8) (n := 512)) _ _ fun p => ?_).symm
  refine congrArg g (Fin.ext ?_)
  show p.1.val * 512 + p.2.val = p.2.val + 512 * p.1.val
  omega

theorem total_eq (X : (⟨2, ![4096, 4096]⟩ : Shape).Idx → EReal) (W : (⟨2, ![4096, 8192]⟩ : Shape).Idx → EReal)
    (h : ∀ c : Dev nD, (argX m c : S4096x512.Idx → EReal) = Layout.block ⟨2, ![4096, 512]⟩ ⟨2, ![4096, 4096]⟩ 1 8 c X
      ∧ (argW m c : S512x8192.Idx → EReal) = Layout.block ⟨2, ![512, 8192]⟩ ⟨2, ![4096, 8192]⟩ 0 8 c W)
    (r : Fin 4096) (j : Fin 8192) : total m r j = wholeProd X W r j := by
  unfold wholeProd total
  rw [sum_runs]
  refine Finset.sum_congr rfl fun e _ => ?_
  unfold partialAt prod
  rw [(h e).1, (h e).2]
  refine Finset.sum_congr rfl fun k _ => ?_
  refine congrArg₂ (· * ·) (congrArg X ?_) (congrArg W ?_)
  · funext x; apply Fin.ext; fin_cases x <;> rfl
  · funext x; apply Fin.ext; fin_cases x <;> rfl

end Cert.KernelIdeal.Ring

end
-- ==== Proof.RefValue.lean ====
/- The references' values at a row and a column of the result: the epilogue of the product of the whole matrices, with and
   without the clip; and what the precondition says of a device's partial products. -/
module

public import proofs.«01_k».proof.Proof.Value
public import proofs.«01_k».proof.Proof.Gen.ReferenceIdeal.Run
public import proofs.«01_k».proof.Proof.Gen.SiluIdeal.Run
public import proofs.«01_k».proof.Proof.Gen.Pre_small_KernelIdeal
public import Idealize.ShloMosaic.Lib.StackMember
public import Idealize.ShloMosaic.Lib.ReduceAll

@[expose] public section

noncomputable section

namespace Cert.RefValue

open Idealize.ShloMosaic
open Idealize.ShloMosaic.ValueIdx
open Cert.KernelIdeal.Ring (wholeProd prod)
open scoped BigOperators

abbrev Sx : Shape := ⟨2, ![4096, 4096]⟩
abbrev Sw : Shape := ⟨2, ![4096, 8192]⟩

/-- The reference without the clip. -/
theorem silu_apply (X : FVec Ideal Sx .f32) (W : FVec Ideal Sw .f32) (r : Fin 4096) (j : Fin 8192) :
    Host.divf (Host.dotGeneral Cert.SiluIdeal.dot_S4096x4096_S4096x8192_S4096x8192_1_0_0_1_n_n none X W)
      (addf (broadcastInDim Cert.SiluIdeal.S4096x8192 ![] Cert.SiluIdeal.Gen.bcast_S_S4096x8192 (constant Cert.SiluIdeal.S_ .f32 0x3F800000#32))
        (Host.exp (Host.negf (Host.dotGeneral Cert.SiluIdeal.dot_S4096x4096_S4096x8192_S4096x8192_1_0_0_1_n_n none X W)))) (ix2 r j)
      = Silu.silu (wholeProd X W r j) := by
  have e : Host.dotGeneral (F := Ideal) Cert.SiluIdeal.dot_S4096x4096_S4096x8192_S4096x8192_1_0_0_1_n_n none X W (ix2 r j) = wholeProd X W r j :=
    StackMember.dotGeneral_plain_apply none X W r j
  rw [hostDivf_apply, e, addf_apply, broadcastInDim_scalar_apply, constant_apply, Ideal.ofBits_one_f32]
  show Ideal.div _ (1 + Ideal.exp (-(Host.dotGeneral (F := Ideal) _ none X W (ix2 r j)))) = _
  rw [e]; rfl

/-- The clipped epilogue at an index. -/
theorem clip_at (Y : FVec Ideal Sw .f32) (i : Sw.Idx) (h : (⟨0, ![]⟩ : Shape).BroadcastsInDim Sw ![]) :
    Host.divf Y (addf (broadcastInDim Sw ![] h (constant ⟨0, ![]⟩ .f32 0x3F800000#32))
        (Host.exp (Host.negf (minimumf (broadcastInDim Sw ![] h (id (constant ⟨0, ![]⟩ .f32 0x42700000#32)))
          (maximumf (broadcastInDim Sw ![] h (id (constant ⟨0, ![]⟩ .f32 0xC2700000#32))) Y))))) i
      = Ideal.div (Y i) (1 + Ideal.exp (-(min ((60 : ℝ) : EReal) (max ((-60 : ℝ) : EReal) (Y i))))) := by
  rw [hostDivf_apply, addf_apply, broadcastInDim_scalar_apply, constant_apply, Ideal.ofBits_one_f32]
  refine congrArg (fun z => Ideal.div (Y i) (1 + Ideal.exp (-z))) ?_
  rw [minimumf_apply, maximumf_apply, broadcastInDim_scalar_apply, broadcastInDim_scalar_apply]
  exact congrArg₂ min Silu.ofBits_sixty (congrArg (fun z => max z (Y i)) Silu.ofBits_neg_sixty)

/-- The reference with the clip. -/
theorem clip_apply (X : FVec Ideal Sx .f32) (W : FVec Ideal Sw .f32) (r : Fin 4096) (j : Fin 8192) :
    Host.divf (Host.dotGeneral Cert.ReferenceIdeal.dot_S4096x4096_S4096x8192_S4096x8192_1_0_0_1_n_n none X W)
      (addf (broadcastInDim Cert.ReferenceIdeal.S4096x8192 ![] Cert.ReferenceIdeal.Gen.bcast_S_S4096x8192 (constant Cert.ReferenceIdeal.S_ .f32 0x3F800000#32))
        (Host.exp (Host.negf (minimumf (broadcastInDim Cert.ReferenceIdeal.S4096x8192 ![] Cert.ReferenceIdeal.Gen.bcast_S_S4096x8192 (id (constant Cert.ReferenceIdeal.S_ .f32 0x42700000#32)))
          (maximumf (broadcastInDim Cert.ReferenceIdeal.S4096x8192 ![] Cert.ReferenceIdeal.Gen.bcast_S_S4096x8192 (id (constant Cert.ReferenceIdeal.S_ .f32 0xC2700000#32)))
            (Host.dotGeneral Cert.ReferenceIdeal.dot_S4096x4096_S4096x8192_S4096x8192_1_0_0_1_n_n none X W)))))) (ix2 r j)
      = Ideal.div (wholeProd X W r j) (1 + Ideal.exp (-(min ((60 : ℝ) : EReal) (max ((-60 : ℝ) : EReal) (wholeProd X W r j))))) := by
  have e : Host.dotGeneral (F := Ideal) Cert.ReferenceIdeal.dot_S4096x4096_S4096x8192_S4096x8192_1_0_0_1_n_n none X W (ix2 r j) = wholeProd X W r j :=
    StackMember.dotGeneral_plain_apply none X W r j
  rw [← e]
  exact clip_at _ _ _

/-- The precondition of a device's operands: its partial products are of magnitude at most 7.5. -/
theorem small_apply (X : FVec Ideal ⟨2, ![4096, 512]⟩ .f32) (W : FVec Ideal ⟨2, ![512, 8192]⟩ .f32)
    (h : Cert.Pre_small_KernelIdeal.fn (F := Ideal) X W = fun _ => 1#1) (r : Fin 4096) (j : Fin 8192) :
    max (prod X W r j) (-(prod X W r j)) ≤ ((15 / 2 : ℝ) : EReal) := by
  have e : Host.dotGeneral (F := Ideal) Cert.Pre_small_KernelIdeal.dot_S4096x512_S512x8192_S4096x8192_1_0_0_1_n_n none X W (ix2 r j) = prod X W r j :=
    StackMember.dotGeneral_plain_apply none X W r j
  have h1 := congrFun h ix0
  haveI : Subsingleton Cert.Pre_small_KernelIdeal.S_.Idx := ⟨fun a b => funext fun x => x.elim0⟩
  have h2 := Host.reduce_andi_all _ _ _ _ _ h1 (ix2 r j)
  have h3 : Ideal.cmp .ole (max (Host.dotGeneral (F := Ideal) Cert.Pre_small_KernelIdeal.dot_S4096x512_S512x8192_S4096x8192_1_0_0_1_n_n none X W (ix2 r j))
      (-(Host.dotGeneral (F := Ideal) Cert.Pre_small_KernelIdeal.dot_S4096x512_S512x8192_S4096x8192_1_0_0_1_n_n none X W (ix2 r j))))
      (broadcastInDim Cert.Pre_small_KernelIdeal.S4096x8192 ![] Cert.Pre_small_KernelIdeal.Gen.bcast_S_S4096x8192
        (constant (F := Ideal) Cert.Pre_small_KernelIdeal.S_ .f32 0x40F00000#32) (ix2 r j)) = 1#1 := h2
  rw [e, broadcastInDim_scalar_apply, constant_apply, Silu.ofBits_bound] at h3
  by_contra hn
  have h4 : Ideal.cmp .ole (max (prod X W r j) (-(prod X W r j))) ((15 / 2 : ℝ) : EReal) = 0#1 := by
    unfold Ideal.cmp; simp [hn]
  rw [h4] at h3
  exact absurd h3 (by decide)

end Cert.RefValue

end
-- ==== Proof.Algebraic.lean ====
/- The value claims: the kernel's result, over the mesh, is the reference's. -/
module

public import proofs.«01_k».proof.Defs
public import proofs.«01_k».proof.Proof.RefValue

@[expose] public section

noncomputable section

namespace Cert.Algebraic

open Idealize.ShloMosaic Idealize.ShloMosaic.ValueIdx Idealize.SL.Sem
open Cert.KernelIdeal.Ring (whole wholeProd total total_eq result_block partialAt run_main)

/-- Against the function without the clip, of any operands. -/
theorem silu : Cert.algebraic_KernelIdeal_SiluIdeal := fun m ρ m' ρ' _ hin => by
  refine ⟨whole m, (θ_run Cert.KernelIdeal.defs _ _).mono (fun _ h c => ⟨result_block m c _ (h.1 c).1, (h.1 c).2⟩) (run_main (F := Ideal) m ρ),
    (θ_run Cert.SiluIdeal.defs _ _).mono (fun _ h => ⟨(h 0).1.trans ?_, (h 0).2⟩) (Cert.SiluIdeal.Value.run (F := Ideal) m' ρ')⟩
  funext i
  obtain ⟨r, j, rfl⟩ : ∃ (r : Fin 4096) (j : Fin 8192), i = ix2 r j := ⟨i 0, i 1, eq_ix2 i⟩
  refine (RefValue.silu_apply _ _ r j).trans ?_
  exact congrArg Silu.silu (total_eq m _ _ hin r j).symm

/-- Against the function as it is given, of operands whose partial products are small on every device. -/
theorem clipped : Cert.algebraic_KernelIdeal_ReferenceIdeal_pre_small_KernelIdeal := fun m ρ m' ρ' hpre hin => by
  refine ⟨whole m, (θ_run Cert.KernelIdeal.defs _ _).mono (fun _ h c => ⟨result_block m c _ (h.1 c).1, (h.1 c).2⟩) (run_main (F := Ideal) m ρ),
    (θ_run Cert.ReferenceIdeal.defs _ _).mono (fun _ h => ⟨(h 0).1.trans ?_, (h 0).2⟩) (Cert.ReferenceIdeal.Value.run (F := Ideal) m' ρ')⟩
  funext i
  obtain ⟨r, j, rfl⟩ : ∃ (r : Fin 4096) (j : Fin 8192), i = ix2 r j := ⟨i 0, i 1, eq_ix2 i⟩
  refine (RefValue.clip_apply _ _ r j).trans ?_
  rw [← total_eq m _ _ hin r j]
  exact Silu.silu_clip (fun e => partialAt m e r j) fun e => RefValue.small_apply _ _ (hpre e) r j

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.SiluIdeal
public import proofs.«01_k».proof.Proof.Gen.SiluIdeal.Run
public import proofs.«01_k».proof.Proof.Gen.Pre_small_KernelIdeal
public import proofs.«01_k».proof.Proof.Gen.Pre_small_ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.SiluIdeal.Gen.facts,
    Cert.Pre_small_KernelIdeal.Gen.facts, Cert.Pre_small_ReferenceIdeal.Gen.facts,
    Frames.kernel, Frames.kernelIdeal, Frames.kernelIdeal_small, Frames.reference, Frames.reference_small, Frames.silu, trivial,
    Algebraic.silu, Algebraic.clipped⟩

end Cert.Proof

end
